-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![256, 512]⟩ ⟨2, ![256, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S256x512 : Shape := ⟨2, ![256, 512]⟩
abbrev S512x256 : Shape := ⟨2, ![512, 256]⟩
abbrev S3x256x256 : Shape := ⟨3, ![3, 256, 256]⟩
abbrev S3 : Shape := ⟨1, ![3]⟩
abbrev S_ : Shape := ⟨0, ![]⟩
abbrev S1 : Shape := ⟨1, ![1]⟩
abbrev S1x256x256 : Shape := ⟨3, ![1, 256, 256]⟩

abbrev nBuf : Space → Nat
  | .hbm => 4
  | .vmem => 5
  | .smem => 0
  | _ => 0

abbrev bufTy : (tb : Table) → Fin (tcTables nBuf tb) → BufTy
  | .hbm, ⟨0, _⟩ => ⟨S256x256, .bf16⟩
  | .hbm, ⟨1, _⟩ => ⟨S256x512, .bf16⟩
  | .hbm, ⟨2, _⟩ => ⟨S512x256, .bf16⟩
  | .hbm, ⟨3, _⟩ => ⟨S256x256, .bf16⟩
  | .local _ .vmem, ⟨0, _⟩ => ⟨S256x256, .bf16⟩
  | .local _ .vmem, ⟨1, _⟩ => ⟨S256x512, .bf16⟩
  | .local _ .vmem, ⟨2, _⟩ => ⟨S512x256, .bf16⟩
  | .local _ .vmem, ⟨3, _⟩ => ⟨S256x256, .bf16⟩
  | .local _ .vmem, ⟨4, _⟩ => ⟨S3x256x256, .bf16⟩
  | _, _ => ⟨S256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_18 : BitVec 32 := 1#32
  let v26 : BitVec 32 := Scalar.xori v2 c1_i32_18
  let c1_i32_22 : BitVec 32 := 1#32
  let v27 : BitVec 32 := Scalar.muli v26 c1_i32_22
  let v28 : BitVec 32 := Scalar.addi c0_i32_23 v27
  v28.toNat
def k0_dev5 (d0 : Dev nD) : Nat :=
  let c0_i32_51 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_46 : BitVec 32 := 2#32
  let v51 : BitVec 32 := Scalar.xori v2 c2_i32_46
  let c1_i32_50 : BitVec 32 := 1#32
  let v52 : BitVec 32 := Scalar.muli v51 c1_i32_50
  let v53 : BitVec 32 := Scalar.addi c0_i32_51 v52
  v53.toNat
def k0_dev6 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_73 : BitVec 32 := 4#32
  let v76 : BitVec 32 := Scalar.xori v2 c4_i32_73
  let c1_i32_77 : BitVec 32 := 1#32
  let v77 : BitVec 32 := Scalar.muli v76 c1_i32_77
  let v78 : BitVec 32 := Scalar.addi c0_i32_78 v77
  v78.toNat
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S256x256 : Shape := ⟨2, ![256, 256]⟩
abbrev S256x4096 : Shape := ⟨2, ![256, 4096]⟩
abbrev S4096x256 : Shape := ⟨2, ![4096, 256]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S256x256, .bf16⟩
  | .hbm, ⟨1, _⟩ => ⟨S256x4096, .bf16⟩
  | .hbm, ⟨2, _⟩ => ⟨S4096x256, .bf16⟩
  | .hbm, ⟨3, _⟩ => ⟨S256x4096, .f32⟩
  | .hbm, ⟨4, _⟩ => ⟨S256x4096, .bf16⟩
  | .hbm, ⟨5, _⟩ => ⟨S_, .bf16⟩
  | .hbm, ⟨6, _⟩ => ⟨S256x4096, .bf16⟩
  | .hbm, ⟨7, _⟩ => ⟨S256x4096, .bf16⟩
  | .hbm, ⟨8, _⟩ => ⟨S256x256, .f32⟩
  | .hbm, ⟨9, _⟩ => ⟨S256x256, .bf16⟩
  | _, _ => ⟨S256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Proof.KernelIdeal.Cube.lean ====
/-
The eight devices as a cube, and the memory the all-reduce works on.

In round `r` device `c` exchanges its partial result with the device whose number differs from `c` in bit `r`
alone. This module names that partner, the seven semaphores of a device the protocol uses, the three slots of the
buffer partners write into, and the contents the result buffer holds after each round.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.Tactic

@[expose] public section

noncomputable section

namespace Cert.KernelIdeal.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Partners -/

/-- The device whose number is `c`'s with bit `r` flipped. -/
def peer (r : ℕ) (c : Dev nD) : Dev nD := ⟨(c.val ^^^ 2 ^ r) % 8, Nat.mod_lt _ (by decide)⟩

/-- Flipping a bit twice gives the device back. -/
theorem peer_peer : ∀ (r : Fin 3) (c : Dev nD), peer r (peer r c) = c := by decide

/-- Round `r`'s exchange as a permutation of the devices. -/
def flip (r : Fin 3) : Dev nD ≃ Dev nD := ⟨peer r, peer r, peer_peer r, peer_peer r⟩

/-- The first signal goes to partner 0, -/
theorem signal0_to (c : Dev nD) : (⟨k0_dev1 c, k0_dev1_lt c⟩ : Dev nD) = peer 0 c := by revert c; decide
/-- the second signal to partner 1, -/
theorem signal1_to (c : Dev nD) : (⟨k0_dev2 c, k0_dev2_lt c⟩ : Dev nD) = peer 1 c := by revert c; decide
/-- the third signal to partner 2; -/
theorem signal2_to (c : Dev nD) : (⟨k0_dev3 c, k0_dev3_lt c⟩ : Dev nD) = peer 2 c := by revert c; decide
/-- the first copy goes to partner 0, -/
theorem copy0_to (c : Dev nD) : (⟨k0_dev4 c, k0_dev4_lt c⟩ : Dev nD) = peer 0 c := by revert c; decide
/-- the second copy to partner 1, -/
theorem copy1_to (c : Dev nD) : (⟨k0_dev5 c, k0_dev5_lt c⟩ : Dev nD) = peer 1 c := by revert c; decide
/-- the third copy to partner 2. -/
theorem copy2_to (c : Dev nD) : (⟨k0_dev6 c, k0_dev6_lt c⟩ : Dev nD) = peer 2 c := by revert c; decide

/-! ## Semaphores -/

/-- Each round's entry lies within its array of three semaphores. -/
theorem sem_inb : ∀ (r : Fin 3) (a : Fin S3.rank), (![r.val] : Fin 1 → ℕ) a + S1.size a ≤ S3.size a := by decide

/-- The semaphore round `r`'s copy raises at its sender, -/
abbrev outSem (r : Fin 3) : DmaSem sig :=
  ((cc0_scratch1.slice (Rect.unit (s := S3) ![r.val] S1.size (sem_inb r))).squeeze S_ squeezes_S1_S_).sem
/-- the one it raises at its receiver, -/
abbrev inSem (r : Fin 3) : DmaSem sig :=
  ((cc0_scratch2.slice (Rect.unit (s := S3) ![r.val] S1.size (sem_inb r))).squeeze S_ squeezes_S1_S_).sem
/-- and the barrier semaphore, which belongs to no launch. -/
abbrev gateSem : Sem sig := (SemArray.scalar (sig.barrier 0 rfl) : Sems sig S_).sem

/-- The seven semaphores of a device the protocol speaks of: the barrier, and each round's two. -/
inductive Port
  | gate
  | sent (r : Fin 3)
  | came (r : Fin 3)
  deriving DecidableEq

namespace Port

/-- All seven. -/
def list : List Port := [gate, sent 0, sent 1, sent 2, came 0, came 1, came 2]

/-- The ports are finitely many: those listed. -/
instance : Fintype Port := ⟨⟨list, by decide⟩, fun p => by
  cases p with
  | gate => decide
  | sent r => revert r; decide
  | came r => revert r; decide⟩

/-- The semaphore a port is. -/
abbrev loc : Port → SemLoc sig
  | gate => .reg gateSem
  | sent r => .dma (outSem r)
  | came r => .dma (inSem r)

/-- The port a semaphore is, if it is one. -/
def of (s : SemLoc sig) : Option Port := list.find? fun p => p.loc = s

/-- Reading a port's semaphore back gives the port. -/
theorem of_loc : ∀ p : Port, of p.loc = some p := by decide

/-- Distinct ports are distinct semaphores. -/
theorem loc_injective : Function.Injective loc := fun p q h =>
  Option.some.inj ((of_loc p).symm.trans ((congrArg of h).trans (of_loc q)))

end Port

/-- Port `p` of device `c`, as the machine addresses it. -/
abbrev cell (c : Dev nD) (p : Port) : GSem nD τ sig := ((c : Thread nD τ), p.loc)

/-- Distinct ports, or ports of distinct devices, are distinct cells. -/
theorem cell_injective : Function.Injective fun x : Dev nD × Port => cell x.1 x.2 := by
  rintro ⟨c, p⟩ ⟨d, q⟩ h
  have hc : c = d := congrArg (fun g : GSem nD τ sig => g.1.1) h
  have hp : p = q := Port.loc_injective (congrArg Prod.snd h)
  rw [hc, hp]

/-! ## Memory -/

/-- The staging buffer of `x`, -/
abbrev xM : Memref sig .tc .vmem S256x256 .bf16 := Memref.whole cc0_stg0_0
/-- of the device's columns of the first matrix, -/
abbrev aM : Memref sig .tc .vmem S256x512 .bf16 := Memref.whole cc0_stg1_0
/-- of its rows of the second, -/
abbrev bM : Memref sig .tc .vmem S512x256 .bf16 := Memref.whole cc0_stg2_0
/-- of the result, -/
abbrev oM : Memref sig .tc .vmem S256x256 .bf16 := Memref.whole cc0_stg3_0
/-- and the buffer the partners write into. -/
abbrev commM : Memref sig .tc .vmem S3x256x256 .bf16 := Memref.whole cc0_scratch0

/-- Each round's slot lies within the receive buffer. -/
theorem slot_inb : ∀ (r : Fin 3) (a : Fin S3x256x256.rank),
    (![r.val, 0, 0] : Fin 3 → ℕ) a + S1x256x256.size a ≤ S3x256x256.size a := by decide

/-- The elements of the receive buffer whose leading index is `r`. -/
abbrev slotRect (r : Fin 3) : Rect S3x256x256 := Rect.unit (s := S3x256x256) ![r.val, 0, 0] S1x256x256.size (slot_inb r)

/-- Slot `r` of the receive buffer as a square array: where round `r`'s copy lands. -/
abbrev slot (r : Fin 3) : Memref sig .tc .vmem S256x256 .bf16 :=
  (commM.slice (slotRect r) (fun _ => rfl)).squeeze S256x256 squeezes_S1x256x256_S256x256

/-- A slot's elements are the ones with its leading index. -/
theorem slot_set (r : Fin 3) : (slot r).view.set = (slotRect r).set :=
  (View.set_reshape _ _).trans (View.set_slice_whole _ _)

/-- An element of the receive buffer is in slot `r` when its first coordinate is `r`. -/
theorem mem_slot (r : Fin 3) (i : S3x256x256.Idx) : i ∈ (slotRect r).set ↔ (i 0).val = r.val := by
  rw [Rect.mem_set_unit]
  constructor
  · intro h
    have h0 := h 0
    change r.val ≤ (i 0).val ∧ (i 0).val < r.val + 1 at h0
    omega
  · intro h a
    have h1 : (i 1).val < 256 := (i 1).isLt
    have h2 : (i 2).val < 256 := (i 2).isLt
    match a with
    | ⟨0, _⟩ => change r.val ≤ (i 0).val ∧ (i 0).val < r.val + 1; omega
    | ⟨1, _⟩ => change 0 ≤ (i 1).val ∧ (i 1).val < 0 + 256; omega
    | ⟨2, _⟩ => change 0 ≤ (i 2).val ∧ (i 2).val < 0 + 256; omega

/-- Two slots share no element, -/
theorem slots_disjoint (r r' : Fin 3) (h : r ≠ r') : Disjoint (slotRect r).set (slotRect r').set :=
  Finset.disjoint_left.mpr fun i hi hi' => h (Fin.ext (((mem_slot r i).mp hi).symm.trans ((mem_slot r' i).mp hi')))

/-- and together they are the receive buffer. -/
theorem slots_cover : (Finset.univ : Finset (Fin 3)).biUnion (fun r => (slotRect r).set) = Finset.univ :=
  Finset.eq_univ_of_forall fun i =>
    Finset.mem_biUnion.mpr ⟨⟨(i 0).val, (i 0).isLt⟩, Finset.mem_univ _, (mem_slot _ i).mpr rfl⟩

/-- A load of the rectangle, its unit axis dropped, is the slot read. -/
theorem load_slot (r : Fin 3) (f : commM.view.ty.Contents (Elt F)) :
    shapeCast S256x256 (commM.view.readAt (Elt F) (slotRect r).toLoadRect f) shapeCasts_S1x256x256_S256x256
      = (slot r).view.read (Elt F) f := rfl

/-- The load touches no element outside the slot. -/
theorem load_slot_inb (r : Fin 3) : commM.view.setOn (slotRect r).toLoadRect.set ⊆ (slot r).view.set := by
  refine Eq.subset ?_
  exact (View.set_slice commM.view (slotRect r)).symm.trans (View.set_reshape _ _).symm

/-- The rectangle of a whole square array. -/
abbrev sq : Rect S256x256 := Rect.unit (s := S256x256) ![0, 0] S256x256.size inb_S256x256_S256x256_0_0
/-- The whole of the first matrix's block, -/
abbrev wide : Rect S256x512 := Rect.unit (s := S256x512) ![0, 0] S256x512.size inb_S256x512_S256x512_0_0
/-- and of the second's. -/
abbrev tall : Rect S512x256 := Rect.unit (s := S512x256) ![0, 0] S512x256.size inb_S512x256_S512x256_0_0

/-- The offset at the origin. -/
theorem zeros : (![0, 0] : Fin 2 → ℕ) = fun _ => 0 := by decide

/-- Loading a whole buffer reads its contents: of `x`, -/
theorem load_x (f : xM.view.ty.Contents (Elt F)) : xM.view.readAt (Elt F) sq.toLoadRect f = f :=
  Memref.readAt_unit_zero (Elt F) cc0_stg0_0 zeros _ f
/-- of the first matrix's block, -/
theorem load_a (f : aM.view.ty.Contents (Elt F)) : aM.view.readAt (Elt F) wide.toLoadRect f = f :=
  Memref.readAt_unit_zero (Elt F) cc0_stg1_0 zeros _ f
/-- of the second's, -/
theorem load_b (f : bM.view.ty.Contents (Elt F)) : bM.view.readAt (Elt F) tall.toLoadRect f = f :=
  Memref.readAt_unit_zero (Elt F) cc0_stg2_0 zeros _ f
/-- of the result. -/
theorem load_o (f : oM.view.ty.Contents (Elt F)) : oM.view.readAt (Elt F) sq.toLoadRect f = f :=
  Memref.readAt_unit_zero (Elt F) cc0_stg3_0 zeros _ f
/-- Storing over the whole result buffer leaves what was stored. -/
theorem store_o (f w : oM.view.ty.Contents (Elt F)) :
    ((oM.access sq : View sig .tc _ _ _)).write (Elt F) f w Finset.univ = w :=
  Memref.write_access_unit_zero_univ (Elt F) cc0_stg3_0 zeros _ f w

/-! ## Contents -/

variable (m : (ℓ : Loc nD τ sig) → Buf (Elt F) ℓ) (ρ : Dev nD → PrngReg)

/-- What device `c` holds of `x`, -/
def xAt (c : Dev nD) : (cc0_stg0_0 : Ref sig .tc).ty.Contents (Elt F) :=
  (win0_0.blk (0 : Fin 1)).view.read (Elt F) (m ((c : Thread nD τ).loc main_arg0))
/-- of the first matrix, -/
def aAt (c : Dev nD) : (cc0_stg1_0 : Ref sig .tc).ty.Contents (Elt F) :=
  (win0_1.blk (0 : Fin 1)).view.read (Elt F) (m ((c : Thread nD τ).loc main_arg1))
/-- and of the second. -/
def bAt (c : Dev nD) : (cc0_stg2_0 : Ref sig .tc).ty.Contents (Elt F) :=
  (win0_2.blk (0 : Fin 1)).view.read (Elt F) (m ((c : Thread nD τ).loc main_arg2))

/-- The result buffer of device `c` before round `n`: at first its own product, then in each round its contents plus
    the partner's of the same round. -/
def acc : ℕ → Dev nD → FVec F S256x256 .bf16
  | 0, c => k0_pay2 (xAt m c) (aAt m c) (bAt m c)
  | n + 1, c => addf (acc n c) (acc n (peer n c))

/-- What each round stores is the sum of the two vectors it loads, the second without its unit axis. -/
theorem pay3_eq (v : Vec F S256x256 .bf16) (w : Vec F S1x256x256 .bf16) :
    k0_pay3 v w = addf v (shapeCast S256x256 w shapeCasts_S1x256x256_S256x256) := by
  unfold k0_pay3; rw [shapeCast_self]
/-- So does the second round, -/
theorem pay4_eq (v : Vec F S256x256 .bf16) (w : Vec F S1x256x256 .bf16) :
    k0_pay4 v w = addf v (shapeCast S256x256 w shapeCasts_S1x256x256_S256x256) := by
  unfold k0_pay4; rw [shapeCast_self]
/-- and the third. -/
theorem pay1_eq (v : Vec F S256x256 .bf16) (w : Vec F S1x256x256 .bf16) :
    k0_pay1 v w = addf v (shapeCast S256x256 w shapeCasts_S1x256x256_S256x256) := by
  unfold k0_pay1; rw [shapeCast_self]

end Cert.KernelIdeal.Cube

end
-- ==== Proof.KernelIdeal.Protocol.lean ====
/-
The protocol of the exchange: who raises which semaphore, what each raise hands over, what a device owes when the
kernel starts, and why no wait can be circular.

The barrier of device `c` is raised three times, once by each partner; partner `r`'s raise hands `c` slot `r` of that
partner's receive buffer, so that `c` may write there. Round `r`'s copy raises a semaphore of its receiver, handing
it its own slot filled with the sender's partial result, and one of its sender, handing back the buffer copied from.
-/
module

public import proofs.«01_k».proof.Proof.KernelIdeal.Cube

@[expose] public section

noncomputable section

namespace Cert.KernelIdeal.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Ghost state: the staging pipeline's, and the exchange's with duties named by the three partners -/

/-- The protocol's own ghost state, -/
abbrev UX : Type := URounds (GSem nD τ sig) (Fin 3)
/-- beside the pipeline's. -/
abbrev UU : Type := UR sig nD τ × UX

local notation "𝕄" => MT nD τ sig Unit (Elt F) ℕ UU ℕ

/-- Where the pipeline's lies, -/
abbrev EP : Emb (UR sig nD τ) (MT nD τ sig Unit (Elt F) ℕ UU ℕ) := embL
/-- and where the protocol's lies. -/
abbrev EX : Emb UX (MT nD τ sig Unit (Elt F) ℕ UU ℕ) := embR

variable (m : (ℓ : Loc nD τ sig) → Buf (Elt F) ℓ)

/-! ## What is handed over -/

/-- Slot `r` of device `c`'s receive buffer, whatever it holds. -/
def slotFree (r : Fin 3) (c : Dev nD) : sProp 𝕄 :=
  iprop(∃ f : Buf (Elt F) ((slot r).view.loc (c : Thread nD τ)), (slot r).view.loc (c : Thread nD τ) ↦[(slot r).view.set]{fullShare} f)

/-- Slot `r` of device `c`'s receive buffer holding `X`. -/
def slotAt (r : Fin 3) (c : Dev nD) (X : FVec F S256x256 .bf16) : sProp 𝕄 :=
  iprop(∃ f : Buf (Elt F) ((slot r).view.loc (c : Thread nD τ)), ⌜(slot r).view.read (Elt F) f = X⌝
    ∗ ((slot r).view.loc (c : Thread nD τ) ↦[(slot r).view.set]{fullShare} f))

/-- Device `c`'s result buffer holding `X`. -/
def outAt (c : Dev nD) (X : FVec F S256x256 .bf16) : sProp 𝕄 :=
  oM.view.loc (c : Thread nD τ) ↦[oM.view.set]{fullShare} X

/-- An invariant may hold a free slot, -/
instance slotFree_storable (r : Fin 3) (c : Dev nD) : BI.Storable (upEmb : UEmb _ 𝕄) (slotFree (F := F) r c) := by
  unfold slotFree; infer_instance
/-- a filled slot, -/
instance slotAt_storable (r : Fin 3) (c : Dev nD) (X) : BI.Storable (upEmb : UEmb _ 𝕄) (slotAt (F := F) r c X) := by
  unfold slotAt; infer_instance
/-- the result buffer, -/
instance outAt_storable (c : Dev nD) (X) : BI.Storable (upEmb : UEmb _ 𝕄) (outAt (F := F) c X) := by
  unfold outAt; infer_instance

/-- The result buffer is held whole. -/
theorem outAt_eq (c : Dev nD) (X : FVec F S256x256 .bf16) :
    (outAt c X : sProp 𝕄) = (((c : Thread nD τ).loc cc0_stg3_0) ↦{fullShare} X) := by
  unfold outAt; rw [View.set_whole]

/-- What a copy of one square array raises a semaphore by. -/
abbrev N : ℕ := (slot 0).view.dmaCredit
/-- A copy raises its semaphores by something. -/
theorem N_pos : 0 < N := View.dmaCredit_pos _ (by decide)

/-- It is the same for every slot, and for the result buffer. -/
theorem credit_slot (r : Fin 3) : (slot r).view.dmaCredit = N := rfl
/-- A copy out of the result buffer counts the same. -/
theorem credit_out : oM.view.dmaCredit = N := rfl

namespace Port

/-- Which raises a port waits for: all three partners' at the barrier, one elsewhere. -/
def duties : Port → Finset (Fin 3)
  | gate => Finset.univ
  | sent _ => {0}
  | came _ => {0}

/-- How much each raise adds. -/
def amount : Port → ℕ
  | gate => 1
  | sent _ => N
  | came _ => N

/-- Every raise is by something. -/
theorem amount_pos (p : Port) : 0 < p.amount := by
  cases p
  · exact Nat.one_pos
  · exact N_pos
  · exact N_pos

/-- The order waits go in: whatever a device still owes while it waits at a port lies above the port. -/
def level : Port → ℕ
  | gate => 1
  | sent _ => 0
  | came r => 2 + r.val

end Port

/-- What raise `d` of device `c`'s port `p` hands `c`. -/
def handed (c : Dev nD) (p : Port) (d : Fin 3) : sProp 𝕄 :=
  match p with
  | .gate => slotFree d (peer d c)
  | .sent r => outAt c (acc m r c)
  | .came r => slotAt r c (acc m r (peer r c))

/-- An invariant may hold what any raise hands over. -/
instance handed_storable (c : Dev nD) (p : Port) (d : Fin 3) : BI.Storable (upEmb : UEmb _ 𝕄) (handed m c p d) := by
  cases p <;> (unfold handed; infer_instance)

/-- At a barrier, the slot of the partner that signals; -/
theorem handed_gate (c : Dev nD) (d : Fin 3) : handed m c .gate d = slotFree d (peer d c) := rfl
/-- at a sender, the result buffer back; -/
theorem handed_sent (c : Dev nD) (r d : Fin 3) : handed m c (.sent r) d = outAt c (acc m r c) := rfl
/-- at a receiver, the slot filled with the partner's sum. -/
theorem handed_came (c : Dev nD) (r d : Fin 3) : handed m c (.came r) d = slotAt r c (acc m r (peer r c)) := rfl

/-- The schedule: every port of every device has one round. -/
def plan : Rounds.Schedule (GSem nD τ sig) (Fin 3) 𝕄 where
  duties g n := if n = 0 ∧ g.1.2 = .tc then (match Port.of g.2 with | some p => p.duties | none => ∅) else ∅
  amount g _ _ := match Port.of g.2 with | some p => p.amount | none => 1
  payload g _ d := match Port.of g.2 with | some p => handed m g.1.1 p d | none => iprop(emp)
  amount_pos g _ _ _ := by
    cases Port.of g.2 with
    | none => exact Nat.one_pos
    | some p => exact p.amount_pos

/-- An invariant may hold the payloads of the schedule. -/
instance plan_payload_storable (g : GSem nD τ sig) (n : ℕ) (d : Fin 3) :
    BI.Storable (upEmb : UEmb _ 𝕄) ((plan m).payload g n d) := by
  show BI.Storable upEmb (match Port.of g.2 with | some p => handed m g.1.1 p d | none => iprop(emp))
  cases Port.of g.2 <;> infer_instance

section Tables
variable (c : Dev nD) (p : Port)

/-- The schedule at a port: its raises, -/
theorem plan_duties : (plan m).duties (cell c p) 0 = p.duties := by
  dsimp only [plan]; rw [if_pos ⟨rfl, rfl⟩, Port.of_loc]
/-- none of them after the first round of the port, -/
theorem plan_over (g : GSem nD τ sig) : ∀ n, 1 ≤ n → (plan m).duties g n = ∅ := fun n hn => by
  dsimp only [plan]; rw [if_neg fun h => by omega]
/-- the size of each, -/
theorem plan_amount (d : Fin 3) : (plan m).amount (cell c p) 0 d = p.amount := by
  dsimp only [plan]; rw [Port.of_loc]
/-- what each hands over, -/
theorem plan_payload (d : Fin 3) : (plan m).payload (cell c p) 0 d = handed m c p d := by
  dsimp only [plan]; rw [Port.of_loc]
/-- and the total a waiter waits for. -/
theorem plan_expect : (plan m).expect (cell c p) 0 = p.duties.card * p.amount := by
  unfold Schedule.expect Schedule.amountOf
  rw [plan_duties, Finset.sum_congr rfl fun d _ => plan_amount m c p d, Finset.sum_const, smul_eq_mul]
/-- All a round hands over, none of it taken yet. -/
theorem plan_rest : bigSep ((plan m).duties (cell c p) 0 \ ∅) (fun d => (plan m).payload (cell c p) 0 d)
    = bigSep p.duties (handed m c p) := by
  rw [Finset.sdiff_empty, plan_duties]; exact bigSep_congr fun d _ => plan_payload m c p d

end Tables

/-! ## Debts and levels -/

/-- Device `c` owes its round-`r` partner the copy of that round, -/
abbrev dueCopy (r : Fin 3) (c : Dev nD) : CellTallies nD τ sig Unit := tallyAt (cell (peer r c) (.came r)) () N
/-- and one raise of its barrier. -/
abbrev dueGate (r : Fin 3) (c : Dev nD) : CellTallies nD τ sig Unit := tallyAt (cell (peer r c) .gate) () 1

/-- Once the last copy has started nothing is owed. -/
abbrev after2 (c : Dev nD) : CellTallies nD τ sig Unit := 0
/-- Before the last copy, that one is owed; -/
abbrev after1 (c : Dev nD) : CellTallies nD τ sig Unit := after2 c + dueCopy 2 c
/-- before the second, both; -/
abbrev after0 (c : Dev nD) : CellTallies nD τ sig Unit := after1 c + dueCopy 1 c
/-- before the first, all three. -/
abbrev afterGate (c : Dev nD) : CellTallies nD τ sig Unit := after0 c + dueCopy 0 c
/-- What is owed at the start: three copies and three signals. -/
def O₀ (c : Dev nD) : CellTallies nD τ sig Unit := afterGate c + dueGate 2 c + dueGate 1 c + dueGate 0 c

/-- Every semaphore of a TensorCore has a level; -/
def L (g : GSem nD τ sig) : Finset Unit := if g.1.2 = .tc then {()} else ∅
/-- a port's is its own, any other's is the bottom. -/
def lv (g : GSem nD τ sig) (_ : Unit) : ℕ := match Port.of g.2 with | some p => p.level | none => 0

/-- No other thread's semaphore has a level, -/
theorem L_off (g : GSem nD τ sig) (h : g.1.2 ≠ .tc) : L g = ∅ := if_neg h
/-- every one of a TensorCore's does, -/
theorem L_on (c : Dev nD) (s : SemLoc sig) : L ((c : Thread nD τ), s) = {()} := if_pos rfl
/-- and a port's is the one stated. -/
theorem lv_cell (c : Dev nD) (p : Port) (u : Unit) : lv (cell c p) u = p.level := by
  unfold lv; rw [Port.of_loc]

/-- Everything owed in `O` lies strictly above level `b`. -/
def Over (b : ℕ) (O : CellTallies nD τ sig Unit) : Prop := ∀ g u, 0 < O g u → u ∈ L g ∧ b < lv g u

/-- Owing nothing is over every level, -/
theorem Over.zero (b : ℕ) : Over b 0 := fun g u h => absurd h (Nat.lt_irrefl 0)
/-- two debts over a level are so together, -/
theorem Over.add {b : ℕ} {O O' : CellTallies nD τ sig Unit} (h : Over b O) (h' : Over b O') : Over b (O + O') := fun g u hg => by
  rw [Pi.add_apply, Finsupp.add_apply] at hg
  by_cases h0 : 0 < O g u
  · exact h g u h0
  · exact h' g u (by omega)
/-- and a debt at a port is over the levels below the port's. -/
theorem Over.due {b : ℕ} (c : Dev nD) (p : Port) (n : ℕ) (h : b < p.level) : Over b (tallyAt (cell c p) () n) := fun g u hg => by
  rw [tallyAt_apply] at hg
  by_cases hc : g = cell c p ∧ u = ()
  · rw [hc.1, lv_cell, L_on]; exact ⟨Finset.mem_singleton_self _, h⟩
  · rw [if_neg hc] at hg; exact absurd hg (Nat.lt_irrefl 0)

/-- Once the last copy has started the debts, being none, lie above the last round's ports. -/
theorem over_after2 (c : Dev nD) : Over (2 + (2 : Fin 3).val) (after2 c) := Over.zero _
/-- Before the last copy the debts lie above the second round's ports, -/
theorem over_after1 (c : Dev nD) : Over (2 + (1 : Fin 3).val) (after1 c) := (Over.zero _).add (Over.due _ _ _ (by decide))
/-- before the second copy above the first round's, -/
theorem over_after0 (c : Dev nD) : Over (2 + (0 : Fin 3).val) (after0 c) :=
  ((Over.zero _).add (Over.due _ _ _ (by decide))).add (Over.due _ _ _ (by decide))
/-- before the first copy above the barrier, -/
theorem over_afterGate (c : Dev nD) : Over 1 (afterGate c) :=
  (((Over.zero _).add (Over.due _ _ _ (by decide))).add (Over.due _ _ _ (by decide))).add (Over.due _ _ _ (by decide))
/-- and at the start above the staging semaphores. -/
theorem over_O₀ (c : Dev nD) : Over 0 (O₀ c) := by
  unfold O₀
  exact (((((((Over.zero _).add (Over.due _ _ _ (by decide))).add (Over.due _ _ _ (by decide))).add (Over.due _ _ _ (by decide))).add
    (Over.due _ _ _ (by decide))).add (Over.due _ _ _ (by decide))).add (Over.due _ _ _ (by decide)))

/-- A device may wait at a semaphore all its debts lie above. -/
theorem mayWait_of_over {b : ℕ} {O : CellTallies nD τ sig Unit} (h : Over b O) (c : Dev nD) (s : SemLoc sig)
    (hs : lv ((c : Thread nD τ), s) () ≤ b) : (levAts L lv : sProp 𝕄) ⊢ MayWait (c : Thread nD τ) s () O :=
  MayOwe.of_cut (L := L) (lev := lv) b (fun p hp => by rw [Finset.mem_singleton.mp hp, L_on]; exact Finset.mem_singleton_self _)
    (fun g u hg => (h g u hg).1) (fun p hp => by rw [Finset.mem_singleton.mp hp]; exact hs) (fun g u hg => (h g u hg).2)

/-! ## The register of ports -/

/-- What every device knows of a port: that it follows the plan, and that its round is open. -/
def known (x : Dev nD × Port) : sProp 𝕄 :=
  iprop((∃ κ : ℕ, cellInv EX (plan m) κ (cell x.1 x.2)) ∗ reached EX (cell x.1 x.2) 0)
/-- What is known of a port stays known. -/
instance known_persistent (x : Dev nD × Port) : BI.Persistent (known m x) := by unfold known; infer_instance

/-- Every port of every device. -/
def book : sProp 𝕄 := bigSep Finset.univ (known m)
/-- So does the register. -/
instance book_persistent : BI.Persistent (book m) := by unfold book; infer_instance

/-- The register tells of each port. -/
theorem book_at (c : Dev nD) (p : Port) : book m ⊢ known m (c, p) := by
  unfold book; exact bigSep_elim (Finset.mem_univ _)

end Cert.KernelIdeal.Cube

end
-- ==== Proof.KernelIdeal.Round.lean ====
/-
The protocol's steps, each proved once for every round: a signal to a partner, the wait at the barrier, and one
round of the exchange — copy, both waits, the sum.
-/
module

public import proofs.«01_k».proof.Proof.KernelIdeal.Protocol

@[expose] public section

noncomputable section

namespace Cert.KernelIdeal.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- No loop of the body is given a variant. -/
abbrev 𝒱₀ : Variants := Variants.none

/-- A family over the three rounds, written out. -/
theorem three (Φ : Fin 3 → sProp 𝕄) : bigSep Finset.univ Φ = iprop(Φ 0 ∗ Φ 1 ∗ Φ 2) :=
  bigSep_univ_eq_bigSepL [0, 1, 2] (by decide) (by decide) Φ

/-- Signalling partner `r`'s barrier pays one debt and hands the partner slot `r` of one's own receive buffer. -/
theorem wp_knock (r : Fin 3) (c n : Dev nD) (hn : n = peer r c) {α : Type} {Q : α → sProp 𝕄}
    {k : PUnit → Prog (TpuEff nD τ sig (Elt F) Λ₀ .tc) α} (rest : CellTallies nD τ sig Unit) (W : Waits sig Unit) :
    iprop(book m ∗ owes (c : Thread nD τ) (rest + dueGate r c) W ∗ dutyTok EX (cell (peer r c) .gate) 0 r ∗ slotFree r c)
      ⊢ iprop((owes (c : Thread nD τ) rest W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n : Thread nD τ) gateSem (1#32 : BitVec 32).toNat) k) Q) := by
  subst hn
  iintro ⟨#HB, HO, Htok, Hslot⟩ Hk
  ihave Hkn := (book_at m (peer r c) .gate) $$ HB
  unfold known
  icases Hkn with ⟨⟨%κ, #Hinv⟩, #Hr⟩
  iapply (Rounds.wp_signal 𝒱₀ EX (plan m) (c : Thread nD τ) none (dst := (peer r c : Thread nD τ)) (κ := κ) (d := r)
      (by rw [plan_duties m (peer r c) .gate]; exact Finset.mem_univ _)
      ((plan_amount m (peer r c) .gate r).trans (by decide)) () rest rfl) $$ [HO Htok Hslot]
  · isplitr; · iexact Hinv
    isplitl [HO]; · iexact HO
    isplitl [Htok]; · iexact Htok
    isplitl [Hslot]
    · rw [plan_payload m (peer r c) .gate, handed_gate, peer_peer]; iexact Hslot
    · iexact Hr
  iexact Hk

/-- Waiting at one's barrier for all three partners gives the three slots to write to. -/
theorem wp_gate (c : Dev nD) {α : Type} {Q : α → sProp 𝕄} {k : PUnit → Prog (TpuEff nD τ sig (Elt F) Λ₀ .tc) α}
    {O : CellTallies nD τ sig Unit} (hO : Over 1 O) (W : Waits sig Unit) :
    iprop(book m ∗ levAts L lv ∗ owes (c : Thread nD τ) O W ∗ cred (tallyAt (cell c .gate) () 3) ∗ atPos EX (cell c .gate) 0 ∅ 0)
      ⊢ iprop(((∃ W', owes (c : Thread nD τ) O W') ∗ semVal (cell c .gate) 0
              ∗ (slotFree 0 (peer 0 c) ∗ slotFree 1 (peer 1 c) ∗ slotFree 2 (peer 2 c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semWait gateSem (3#32 : BitVec 32).toNat) k) Q) := by
  iintro ⟨#HB, #Hlev, HO, Hc, Hat⟩ Hk
  ihave Hkn := (book_at m c .gate) $$ HB
  unfold known
  icases Hkn with ⟨⟨%κ, #Hinv⟩, #Hr⟩
  iapply (Rounds.wp_wait_rest_token 𝒱₀ EX (plan m) (c : Thread nD τ) none (κ := κ)
      (wpE_semWait_eq 𝒱₀ (c : Thread nD τ) none Set.univ) (Set.mem_univ _) () (O := O) (W := W) (R := 0) (m := 0) (T := ∅)
      (by rw [plan_expect m c .gate]; decide)) $$ [Hc HO Hat]
  · isplitr; · iexact Hinv
    isplitl [Hc]; · iexact Hc
    isplitl [HO]; · iexact HO
    isplitr; · iapply (mayWait_of_over hO c _ (by rw [lv_cell c .gate]; decide)); iexact Hlev
    iexact Hat
  iintro ⟨HO, Hat, -, Hpay⟩
  ihave Hp := (Entails.of_eq ((plan_rest m c .gate).trans (three _))) $$ Hpay
  imod (Rounds.cell_close EX (plan m) (Set.mem_univ κ) (fun h => h) (R := 0 + 1) (plan_over m (cell c .gate))) $$ [Hat] with Hz
  · isplitr; · iexact Hinv
    iexact Hat
  iapply Hk
  isplitl [HO]; · iexists _; iexact HO
  isplitl [Hz]; · iexact Hz
  unfold handed
  iexact Hp

/-- What a device brings to round `r`: the credit of its own arrival, its place at both semaphores, and the right to
    raise its own and its partner's. -/
def fare (r : Fin 3) (c : Dev nD) : sProp 𝕄 :=
  iprop(cred (tallyAt (cell c (.came r)) () N) ∗ atPos EX (cell c (.sent r)) 0 ∅ 0 ∗ atPos EX (cell c (.came r)) 0 ∅ 0
    ∗ dutyTok EX (cell c (.sent r)) 0 0 ∗ dutyTok EX (cell (peer r c) (.came r)) 0 0)

/-- What it holds of the round's semaphores afterwards: both at zero. -/
def quiet (r : Fin 3) (c : Dev nD) : sProp 𝕄 :=
  iprop(semVal (cell c (.sent r)) 0 ∗ semVal (cell c (.came r)) 0)

/-- Sending: the result buffer goes with the copy, to come back at the sender's wait, and the partner's slot is filled
    with what the sender holds. -/
theorem wp_post (r : Fin 3) (c n : Dev nD) (hn : n = peer r c) {α : Type} {Q : α → sProp 𝕄}
    {hsc : (slot r : Memref sig (Dev.tc n : Thread nD τ).2.kind .vmem S256x256 .bf16).view.ref.isScScratch = false}
    {hsrc : oM.view.WordExact} {hdst : (slot r).view.WordExact}
    {hsem : DmaTarget.Typed .vmem (.dma (inSem r)) (.remote (Dev.tc n : Thread nD τ) (slot r) (.dma (outSem r)) hsc)}
    {k : PUnit → Prog (TpuEff nD τ sig (Elt F) Λ₀ .tc) α} (rest : CellTallies nD τ sig Unit) (W : Waits sig Unit) :
    iprop(book m ∗ outAt c (acc m r c) ∗ slotFree r (peer r c) ∗ owes (c : Thread nD τ) (rest + dueCopy r c) W
        ∗ dutyTok EX (cell c (.sent r)) 0 0 ∗ dutyTok EX (cell (peer r c) (.came r)) 0 0)
      ⊢ iprop(((cred (tallyAt (cell c (.sent r)) () N) ∗ owes (c : Thread nD τ) rest W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma oM (.remote (Dev.tc n : Thread nD τ) (slot r) (.dma (outSem r)) hsc) (.dma (inSem r)) hsrc hdst hsem) k) Q) := by
  subst hn
  iintro ⟨#HB, Hout, Hslot, HO, Ht, Ht'⟩ Hk
  ihave Hkn := (book_at m c (.sent r)) $$ HB
  ihave Hkn' := (book_at m (peer r c) (.came r)) $$ HB
  unfold known
  icases Hkn with ⟨⟨%κ, #Hinv⟩, #Hr⟩
  icases Hkn' with ⟨⟨%κ', #Hinv'⟩, #Hr'⟩
  unfold slotFree
  icases Hslot with ⟨%f, Hslot⟩
  unfold outAt
  iapply (Rounds.wp_send_pointsTo 𝒱₀ EX (plan m) (c : Thread nD τ) none (κ₁ := κ) (κ₂ := κ')
    (r₁ := 0) (r₂ := 0) (d₁ := 0) (d₂ := 0) (fd := f)
    (by rw [plan_duties m c (.sent r)]; exact Finset.mem_singleton_self _)
    (by rw [plan_duties m (peer r c) (.came r)]; exact Finset.mem_singleton_self _)
    () () N rfl (plan_amount m c (.sent r) 0) (plan_amount m (peer r c) (.came r) 0) rest rfl (W := W)
    (by rw [plan_payload m c (.sent r)]; exact BI.Entails.refl _)
    (by
      rw [plan_payload m (peer r c) (.came r), handed_came, peer_peer]; unfold slotAt
      iintro H
      iexists ((slot r).view.write (Elt F) f (oM.view.read (Elt F) (acc m r c)) Finset.univ)
      isplitr
      · ipureintro
        rw [View.read_write_univ]; exact View.read_whole cc0_stg3_0 _
      · iexact H)) $$ [Hout Hslot HO Ht Ht']
  · isplitr; · iexact Hinv
    isplitr; · iexact Hinv'
    isplitl [Hout]; · iexact Hout
    isplitl [Hslot]; · iexact Hslot
    isplitl [HO]; · iexact HO
    isplitl [Ht]; · iexact Ht
    isplitr; · iexact Hr
    isplitl [Ht']; · iexact Ht'
    iexact Hr'
  iexact Hk

/-- A wait at one of a round's two semaphores: what its single raise handed over comes back, and the semaphore is done
    with, at zero. -/
theorem wp_drain (c : Dev nD) (p : Port) (q : DmaSem sig) (hp : p.loc = .dma q) (hd : p.duties = {0}) (hN : p.amount = N)
    {b : ℕ} {O : CellTallies nD τ sig Unit} (hO : Over b O) (hb : p.level ≤ b) (W : Waits sig Unit)
    {sp sp' : Space} {s : Shape} {e : EltTy} {src : Memref sig .tc sp s e} {dst : Memref sig .tc sp' s e}
    {h₁ : src.view.WordExact} {h₂ : dst.view.WordExact} (hcr : dst.view.dmaCredit = N)
    {α : Type} {Q : α → sProp 𝕄} {k : PUnit → Prog (TpuEff nD τ sig (Elt F) Λ₀ .tc) α} :
    iprop(book m ∗ levAts L lv ∗ owes (c : Thread nD τ) O W ∗ cred (tallyAt (cell c p) () N) ∗ atPos EX (cell c p) 0 ∅ 0)
      ⊢ iprop(((∃ W', owes (c : Thread nD τ) O W') ∗ semVal (cell c p) 0 ∗ handed m c p 0
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst h₁ h₂) k) Q) := by
  iintro ⟨#HB, #Hlev, HO, Hc, Hat⟩ Hk
  ihave Hkn := (book_at m c p) $$ HB
  unfold known
  icases Hkn with ⟨⟨%κ, #Hinv⟩, #Hr⟩
  have hcell : cell c p = ((c : Thread nD τ), SemLoc.dma q) := by rw [← hp]
  iapply (Rounds.wp_wait_rest_token 𝒱₀ EX (plan m) (c : Thread nD τ) none (κ := κ)
      (wpE_waitDma2_eq 𝒱₀ (c : Thread nD τ) none Set.univ) (Set.mem_univ _) () (O := O) (W := W) (R := 0) (m := 0) (T := ∅)
      (by rw [← hcell, plan_expect m c p, hd, hN, Finset.card_singleton, Nat.zero_add, Nat.one_mul]; exact hcr)) $$ [Hc HO Hat]
  · rw [← hcell, hcr]
    isplitr; · iexact Hinv
    isplitl [Hc]; · iexact Hc
    isplitl [HO]; · iexact HO
    isplitr; · iapply (mayWait_of_over hO c _ (by rw [← hp, lv_cell c p]; exact hb)); iexact Hlev
    iexact Hat
  rw [← hcell]
  iintro ⟨HO, Hat, -, Hpay⟩
  ihave Hp := (Entails.of_eq ((plan_rest m c p).trans (by rw [hd, bigSep_singleton]))) $$ Hpay
  imod (Rounds.cell_close EX (plan m) (Set.mem_univ κ) (fun h => h) (R := 0 + 1) (plan_over m (cell c p))) $$ [Hat] with Hz
  · isplitr; · iexact Hinv
    iexact Hat
  iapply Hk
  isplitl [HO]; · iexists _; iexact HO
  isplitl [Hz]; · iexact Hz
  iexact Hp

/-- Taking in what arrived: the result buffer and the slot are loaded and their sum is stored in the result buffer. -/
theorem wp_absorb (r : Fin 3) (c : Dev nD) (X Y : FVec F S256x256 .bf16) {α : Type} {Q : α → sProp 𝕄}
    (pay : Vec F S256x256 .bf16 → Vec F S1x256x256 .bf16 → FVec F S256x256 .bf16)
    (hpay : ∀ v w, pay v w = addf v (shapeCast S256x256 w shapeCasts_S1x256x256_S256x256))
    {l₁ : oM.view.LoadsAt sq.toLoadRect} {l₂ : commM.view.LoadsAt (slotRect r).toLoadRect} {l₃ : oM.view.LoadsAt sq.toLoadRect}
    {hx : (oM.access sq).Stores Finset.univ} {hm : (Finset.univ : Finset sq.shape.Idx) = Finset.univ ∨ ∀ a, sq.stride a = 1}
    {k : PUnit → Prog (TpuEff nD τ sig (Elt F) Λ₀ .tc) α} :
    iprop(outAt c X ∗ slotAt r c Y)
      ⊢ iprop((outAt c (addf X Y) ∗ slotFree r c
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load oM sq.toLoadRect l₁) fun v =>
                .op (.load commM (slotRect r).toLoadRect l₂) fun w =>
                .op (.load oM sq.toLoadRect l₃) fun _ =>
                .op (.store oM sq (pay v w) Finset.univ hx hm) k) Q) := by
  unfold slotAt slotFree outAt
  iintro ⟨Hout, %f, %hf, Hslot⟩ Hk
  subst hf
  iapply (wp_load 𝒱₀ (c : Thread nD τ) none Set.univ (m := oM) (by rw [View.set_whole]; exact Finset.subset_univ _)) $$ Hout; iintro Hout
  iapply (wp_load 𝒱₀ (c : Thread nD τ) none Set.univ (m := commM) (load_slot_inb r)) $$ Hslot; iintro Hslot
  iapply (wp_load 𝒱₀ (c : Thread nD τ) none Set.univ (m := oM) (by rw [View.set_whole]; exact Finset.subset_univ _)) $$ Hout; iintro Hout
  iapply (wp_store 𝒱₀ (c : Thread nD τ) none Set.univ (m := oM) (r := sq) (Mk := Finset.univ) (by rw [View.set_whole]; exact Finset.subset_univ _)) $$ Hout; iintro Hout
  rw [store_o, load_o, hpay, load_slot]
  iapply Hk
  isplitl [Hout]; · iexact Hout
  iexists f; iexact Hslot

set_option maxHeartbeats 1600000 in
/-- ONE ROUND: holding its own partial result and its partner's slot, the device copies the one into the other, waits
    for the copy out and for its partner's copy in, and adds what came. It is left with the sum and with its own slot. -/
theorem wp_round (r : Fin 3) (c n : Dev nD) (hn : n = peer r c) {α : Type} {Q : α → sProp 𝕄}
    (pay : Vec F S256x256 .bf16 → Vec F S1x256x256 .bf16 → FVec F S256x256 .bf16)
    (hpay : ∀ v w, pay v w = addf v (shapeCast S256x256 w shapeCasts_S1x256x256_S256x256))
    {rest : CellTallies nD τ sig Unit} (hrest : Over (2 + r.val) rest) (W : Waits sig Unit)
    {hsc : (slot r : Memref sig (Dev.tc n : Thread nD τ).2.kind .vmem S256x256 .bf16).view.ref.isScScratch = false}
    {hsrc : oM.view.WordExact} {hdst : (slot r).view.WordExact}
    {hsem : DmaTarget.Typed .vmem (.dma (inSem r)) (.remote (Dev.tc n : Thread nD τ) (slot r) (.dma (outSem r)) hsc)}
    {w₁ : (slot r).view.WordExact} {w₂ : oM.view.WordExact} {w₃ : oM.view.WordExact} {w₄ : (slot r).view.WordExact}
    {l₁ : oM.view.LoadsAt sq.toLoadRect} {l₂ : commM.view.LoadsAt (slotRect r).toLoadRect} {l₃ : oM.view.LoadsAt sq.toLoadRect}
    {hx : (oM.access sq).Stores Finset.univ} {hm : (Finset.univ : Finset sq.shape.Idx) = Finset.univ ∨ ∀ a, sq.stride a = 1}
    {k : PUnit → Prog (TpuEff nD τ sig (Elt F) Λ₀ .tc) α} :
    iprop(book m ∗ levAts L lv ∗ fare r c ∗ owes (c : Thread nD τ) (rest + dueCopy r c) W ∗ slotFree r (peer r c) ∗ outAt c (acc m r c))
      ⊢ iprop(((∃ W', owes (c : Thread nD τ) rest W') ∗ quiet r c ∗ slotFree r c ∗ outAt c (acc m (r.val + 1) c)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma oM (.remote (Dev.tc n : Thread nD τ) (slot r) (.dma (outSem r)) hsc) (.dma (inSem r)) hsrc hdst hsem) fun _ =>
                .op (.waitDma2 (outSem r) (slot r) oM w₁ w₂) fun _ =>
                .op (.waitDma2 (inSem r) oM (slot r) w₃ w₄) fun _ =>
                .op (.load oM sq.toLoadRect l₁) fun v =>
                .op (.load commM (slotRect r).toLoadRect l₂) fun w =>
                .op (.load oM sq.toLoadRect l₃) fun _ =>
                .op (.store oM sq (pay v w) Finset.univ hx hm) k) Q) := by
  unfold fare quiet
  iintro ⟨#HB, #Hlev, ⟨Hc, HatS, HatC, Ht, Ht'⟩, HO, Hslot, Hout⟩ Hk
  iapply (wp_post m r c n hn rest W) $$ [Hout Hslot HO Ht Ht']
  · isplitr; · iexact HB
    isplitl [Hout]; · iexact Hout
    isplitl [Hslot]; · iexact Hslot
    isplitl [HO]; · iexact HO
    isplitl [Ht] <;> iassumption
  iintro ⟨HcS, HO⟩
  iapply (wp_drain m c (.sent r) (outSem r) rfl rfl rfl hrest (Nat.zero_le _) W (src := slot r) (dst := oM) credit_out) $$ [HO HcS HatS]
  · isplitr; · iexact HB
    isplitr; · iexact Hlev
    isplitl [HO]; · iexact HO
    isplitl [HcS] <;> iassumption
  iintro ⟨⟨%W₁, HO⟩, HzS, Hout⟩
  iapply (wp_drain m c (.came r) (inSem r) rfl rfl rfl hrest le_rfl W₁ (src := oM) (dst := slot r) (credit_slot r)) $$ [HO Hc HatC]
  · isplitr; · iexact HB
    isplitr; · iexact Hlev
    isplitl [HO]; · iexact HO
    isplitl [Hc] <;> iassumption
  iintro ⟨HO, HzC, Hslot⟩
  ihave Hout := (Entails.of_eq (handed_sent m c r 0)) $$ Hout
  ihave Hslot := (Entails.of_eq (handed_came m c r 0)) $$ Hslot
  iapply (wp_absorb r c (acc m r c) (acc m r (peer r c)) pay hpay) $$ [Hout Hslot]
  · isplitl [Hout] <;> iassumption
  iintro ⟨Hout, Hslot⟩
  iapply Hk
  isplitl [HO]; · iexact HO
  isplitl [HzS HzC]
  · isplitl [HzS] <;> iassumption
  isplitl [Hslot]; · iexact Hslot
  iexact Hout

end Cert.KernelIdeal.Cube

end
-- ==== Proof.KernelIdeal.Body.lean ====
/-
The kernel's body on one device, from what the launch deals it to what it leaves.
-/
module

public import proofs.«01_k».proof.Proof.KernelIdeal.Round

@[expose] public section

noncomputable section

namespace Cert.KernelIdeal.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The receive buffer, whole and slot by slot -/

/-- The receive buffer whole, whatever it holds. -/
def commAny (c : Dev nD) : sProp 𝕄 :=
  iprop(∃ f : Buf (Elt F) ((c : Thread nD τ).loc cc0_scratch0), ((c : Thread nD τ).loc cc0_scratch0) ↦{fullShare} f)

/-- It splits into its three slots, -/
theorem comm_split (c : Dev nD) : (commAny c : sProp 𝕄) ⊢ bigSep Finset.univ fun r => slotFree r c := by
  have take (f : Buf (Elt F) ((c : Thread nD τ).loc cc0_scratch0)) :
      (((c : Thread nD τ).loc cc0_scratch0) ↦{fullShare} f : sProp 𝕄) ⊢ bigSep Finset.univ fun r => slotFree r c := by
    rw [Ring.pointsTo_blocks (ℓ := (c : Thread nD τ).loc cc0_scratch0) (fun r : Fin 3 => (slotRect r).set) slots_disjoint slots_cover f]
    refine bigSep_mono fun r _ => ?_
    unfold slotFree; rw [slot_set]
    exact Idealize.SL.BI.BIClass.exists_intro (Φ := fun f => iprop((slot r).view.loc (c : Thread nD τ) ↦[(slotRect r).set]{fullShare} f)) f
  unfold commAny
  iintro ⟨%f, H⟩
  iapply (take f); iexact H

/-- and is put together again from them, each with contents of its own. -/
theorem comm_join (c : Dev nD) : (bigSep Finset.univ fun r => slotFree r c : sProp 𝕄) ⊢ commAny c := by
  unfold commAny
  refine BI.Entails.trans (bigSep_mono fun r _ => ?_) (Ring.pointsTo_blocks_join_exists (ℓ := (c : Thread nD τ).loc cc0_scratch0)
    (fun r : Fin 3 => (slotRect r).set) slots_disjoint slots_cover (fun _ => Classical.arbitrary _))
  unfold slotFree; rw [slot_set]; exact BI.Entails.refl _

/-! ## What the body starts from and ends with -/

/-- What the launch deals device `c`: the register of ports, the order of waits, its three credits at the barrier, the
    right to knock at each partner, and its fare for each round. -/
def start (c : Dev nD) : sProp 𝕄 :=
  iprop(book m ∗ levAts L lv ∗ (cred (tallyAt (cell c .gate) () 3) ∗ atPos EX (cell c .gate) 0 ∅ 0)
    ∗ (bigSep Finset.univ fun r : Fin 3 => dutyTok EX (cell (peer r c) .gate) 0 r)
    ∗ bigSep Finset.univ fun r : Fin 3 => fare r c)

/-- Before the body: that, and the receive buffer. -/
def Φ₀ (c : Dev nD) : sProp 𝕄 := iprop(start m c ∗ commAny c)
/-- After it: the receive buffer, and every semaphore of the protocol at zero. -/
def Φ₁ (c : Dev nD) : sProp 𝕄 :=
  iprop(commAny c ∗ semVal (cell c .gate) 0 ∗ bigSep Finset.univ fun r : Fin 3 => quiet r c)

/-- The pipeline's account of the launch: the arrays it stages, what the body leaves in each staging buffer — the
    inputs as they came, the result after three rounds —, and the device's debts. -/
def dats (_ : Fin 1) (c : Dev nD) : Dat τ (Elt F) Unit ℕ UU ℕ cfg0 c where
  A w := m ((cfg0.win w).arr.view.loc (c : Thread nD τ))
  after w _ := match w with
    | ⟨0, _⟩ => xAt m c
    | ⟨1, _⟩ => aAt m c
    | ⟨2, _⟩ => bAt m c
    | ⟨3, _⟩ => acc m 3 c
  Φ t := match t with
    | ⟨0, _⟩ => Φ₀ m c
    | ⟨_ + 1, _⟩ => Φ₁ c
  q _ := fullShare
  owed t := match t with
    | ⟨0, _⟩ => O₀ c
    | ⟨_ + 1, _⟩ => 0

/-- Owning a staging buffer is holding it whole at contents that read as stated. -/
theorem owns_staging (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer holding `X`, as the pipeline hands it over. -/
abbrev staged (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- What the pipeline hands the body: its own start, its debts, and the four staging buffers as filled so far. -/
def bodyPre (c : Dev nD) : sProp 𝕄 :=
  iprop(Φ₀ m c ∗ (dats m 0 c).owesAt () t0_0.castSucc
    ∗ (∃ d, staged c cc0_stg0_0 ((dats m 0 c).before (0 : Fin 4) t0_0 d))
    ∗ (∃ d, staged c cc0_stg1_0 ((dats m 0 c).before (1 : Fin 4) t0_0 d))
    ∗ (∃ d, staged c cc0_stg2_0 ((dats m 0 c).before (2 : Fin 4) t0_0 d))
    ∗ (∃ d, staged c cc0_stg3_0 ((dats m 0 c).before (3 : Fin 4) t0_0 d)))

/-- What the body hands back: no debt left, the inputs as they came, the result buffer at the sum over the cube. -/
def bodyPost (c : Dev nD) : sProp 𝕄 :=
  iprop(Φ₁ c ∗ (dats m 0 c).owesAt () t0_0.succ ∗ staged c cc0_stg0_0 (xAt m c) ∗ staged c cc0_stg1_0 (aAt m c)
    ∗ staged c cc0_stg2_0 (bAt m c) ∗ staged c cc0_stg3_0 (acc m 3 c))

set_option maxHeartbeats 1600000 in
/-- The body: three signals, the wait for three, the product, and the round three times. -/
theorem wp_body (c : Dev nD) (K : PUnit → sProp 𝕄) :
    iprop(bodyPre m c ∗ (bodyPost m c -∗ K ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) cc0_scratch1 cc0_scratch2) K := by
  simp only [cc0_body_eq_skeleton]; unfold cc0_body_skel
  simp only [k0_part1_eq_skeleton, k0_part2_eq_skeleton, k0_part3_eq_skeleton]
  unfold k0_part1_skel k0_part2_skel k0_part3_skel
  simp only [semSignalWord, semWaitWord, Prog.lift, Prog.bind_op, Prog.bind_ret, Prog.pure_eq_ret, wp_deviceId]
  unfold bodyPre Φ₀ start
  rw [three, three]
  iintro ⟨⟨⟨⟨#HB, #Hlev, ⟨Hcg, Hat⟩, ⟨Ht0, Ht1, Ht2⟩, Hf0, Hf1, Hf2⟩, Hcomm⟩, Ho, ⟨%d0, %g0, %hg0, Hx⟩, ⟨%d1, %g1, %hg1, Ha⟩,
    ⟨%d2, %g2, %hg2, Hb⟩, %d3, %g3, %hg3, Hout⟩, HK⟩
  have hx : g0 = xAt m c := by rw [hg0]; unfold Dat.before; rw [if_pos (fetch0_0 t0_0)]; rfl
  have ha : g1 = aAt m c := by rw [hg1]; unfold Dat.before; rw [if_pos (fetch0_1 t0_0)]; rfl
  have hb : g2 = bAt m c := by rw [hg2]; unfold Dat.before; rw [if_pos (fetch0_2 t0_0)]; rfl
  subst hx ha hb
  clear hg3
  unfold Dat.owesAt Pipeline.owesWithin
  icases Ho with ⟨%W, %hW, HO⟩
  rw [show (dats m 0 c).owed t0_0.castSucc = O₀ c from rfl]
  unfold O₀
  ihave Hs := ((comm_split c).trans (Entails.of_eq (three _))) $$ Hcomm
  icases Hs with ⟨Hs0, Hs1, Hs2⟩
  -- the three signals, each with one slot
  iapply (wp_knock m 0 c _ (signal0_to c) (afterGate c + dueGate 2 c + dueGate 1 c) W) $$ [HO Ht0 Hs0]
  · isplitr; · iexact HB
    isplitl [HO]; · iexact HO
    isplitl [Ht0] <;> iassumption
  iintro HO
  iapply (wp_knock m 1 c _ (signal1_to c) (afterGate c + dueGate 2 c) W) $$ [HO Ht1 Hs1]
  · isplitr; · iexact HB
    isplitl [HO]; · iexact HO
    isplitl [Ht1] <;> iassumption
  iintro HO
  iapply (wp_knock m 2 c _ (signal2_to c) (afterGate c) W) $$ [HO Ht2 Hs2]
  · isplitr; · iexact HB
    isplitl [HO]; · iexact HO
    isplitl [Ht2] <;> iassumption
  iintro HO
  -- the barrier
  iapply (wp_gate m c (over_afterGate c) W) $$ [HO Hcg Hat]
  · isplitr; · iexact HB
    isplitr; · iexact Hlev
    isplitl [HO]; · iexact HO
    isplitl [Hcg] <;> iassumption
  iintro ⟨⟨%W₀, HO⟩, Hz, Hp0, Hp1, Hp2⟩
  -- the device's own product
  iapply (wp_load 𝒱₀ (c : Thread nD τ) none Set.univ (m := xM) (Finset.subset_univ _)) $$ Hx; iintro Hx
  iapply (wp_load 𝒱₀ (c : Thread nD τ) none Set.univ (m := aM) (Finset.subset_univ _)) $$ Ha; iintro Ha
  iapply (wp_load 𝒱₀ (c : Thread nD τ) none Set.univ (m := bM) (Finset.subset_univ _)) $$ Hb; iintro Hb
  iapply (wp_load 𝒱₀ (c : Thread nD τ) none Set.univ (m := oM) (Finset.subset_univ _)) $$ Hout; iintro Hout
  iapply (wp_store 𝒱₀ (c : Thread nD τ) none Set.univ (m := oM) (r := sq) (Mk := Finset.univ) (Finset.subset_univ _)) $$ Hout; iintro Hout
  rw [store_o, load_x, load_a, load_b]
  ihave Hout := (show ((oM.access sq).loc (c : Thread nD τ) ↦{fullShare} k0_pay2 (xAt m c) (aAt m c) (bAt m c) : sProp 𝕄) ⊢ outAt c (acc m 0 c) from
    Entails.of_eq (outAt_eq c (acc m 0 c)).symm) $$ Hout
  -- the three rounds
  iapply (wp_round m 0 c _ (copy0_to c) k0_pay3 pay3_eq (over_after0 c) W₀) $$ [HO Hf0 Hp0 Hout]
  · isplitr; · iexact HB
    isplitr; · iexact Hlev
    isplitl [Hf0]; · iexact Hf0
    isplitl [HO]; · iexact HO
    isplitl [Hp0]; · iexact Hp0
    iexact Hout
  iintro ⟨⟨%W₁, HO⟩, Hq0, Hs0, Hout⟩
  iapply (wp_round m 1 c _ (copy1_to c) k0_pay4 pay4_eq (over_after1 c) W₁) $$ [HO Hf1 Hp1 Hout]
  · isplitr; · iexact HB
    isplitr; · iexact Hlev
    isplitl [Hf1]; · iexact Hf1
    isplitl [HO]; · iexact HO
    isplitl [Hp1]; · iexact Hp1
    iexact Hout
  iintro ⟨⟨%W₂, HO⟩, Hq1, Hs1, Hout⟩
  iapply (wp_round m 2 c _ (copy2_to c) k0_pay1 pay1_eq (over_after2 c) W₂) $$ [HO Hf2 Hp2 Hout]
  · isplitr; · iexact HB
    isplitr; · iexact Hlev
    isplitl [Hf2]; · iexact Hf2
    isplitl [HO]; · iexact HO
    isplitl [Hp2]; · iexact Hp2
    iexact Hout
  iintro ⟨⟨%W₃, HO⟩, Hq2, Hs2, Hout⟩
  ihave Hout := (show outAt c (acc m ((2 : Fin 3).val + 1) c) ⊢ (((c : Thread nD τ).loc cc0_stg3_0) ↦{fullShare} acc m 3 c : sProp 𝕄) from
    Entails.of_eq (outAt_eq c (acc m 3 c))) $$ Hout
  rw [wp_ret]; imodintro
  iapply HK
  unfold bodyPost Φ₁ Dat.owesAt Pipeline.owesWithin
  rw [show (dats m 0 c).owed t0_0.succ = 0 from rfl]
  isplitl [Hs0 Hs1 Hs2 Hz Hq0 Hq1 Hq2]
  · isplitl [Hs0 Hs1 Hs2]
    · iapply (comm_join c); rw [three]
      isplitl [Hs0]; · iexact Hs0
      isplitl [Hs1] <;> iassumption
    isplitl [Hz]; · iexact Hz
    rw [three]
    isplitl [Hq0]; · iexact Hq0
    isplitl [Hq1] <;> iassumption
  isplitl [HO]
  · iexists W₃
    isplitr; · ipureintro; exact fun _ _ => Or.inl trivial
    iexact HO
  isplitl [Hx]
  · iexists _; isplitr; · (ipureintro; rfl)
    iexact Hx
  isplitl [Ha]
  · iexists _; isplitr; · (ipureintro; rfl)
    iexact Ha
  isplitl [Hb]
  · iexists _; isplitr; · (ipureintro; rfl)
    iexact Hb
  iexists _; isplitr; · (ipureintro; rfl)
  iexact Hout

set_option maxRecDepth 4000 in
/-- The body meets the pipeline's demand on it. -/
theorem body_obligation (c : Dev nD) : BodyObligation (dats (F := F) m 0 c) (defs₀ (F := F)) 𝒱₀ () Set.univ := fun t => by
  rw [fin_N0 t]
  rw [bigSep_W0, bigSep_W0]
  simp only [owns_staging]
  show bodyPre m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) cc0_scratch1 cc0_scratch2) (fun _ => bodyPost m c)
  iintro H
  iapply (wp_body m c fun _ => bodyPost m c)
  isplitl [H]; · iexact H
  iintro H; iexact H

end Cert.KernelIdeal.Cube

end
-- ==== Proof.KernelIdeal.Launch.lean ====
/-
The launch: the register of ports is opened on all devices at once, each device is dealt what its body starts from,
and the run of the whole program follows.
-/
module

public import proofs.«01_k».proof.Proof.KernelIdeal.Body
public import Idealize.ShloMosaic.Lib.Pipeline.CollectiveSegs

@[expose] public section

noncomputable section

namespace Cert.KernelIdeal.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The ghost state the launch mints -/

/-- Every port of every device, -/
def allCells : Finset (GSem nD τ sig) := Finset.univ.map ⟨fun x : Dev nD × Port => cell x.1 x.2, cell_injective⟩

/-- and the right to each raise: by kind — at a barrier, at a sender, at a receiver — and by partner or round. -/
abbrev rightOf (x : Dev nD × Fin 3 × Fin 3) : GSem nD τ sig × ℕ × Fin 3 :=
  match x.2.1 with
  | 0 => (cell x.1 .gate, 0, x.2.2)
  | 1 => (cell x.1 (.sent x.2.2), 0, 0)
  | 2 => (cell x.1 (.came x.2.2), 0, 0)

/-- No two of those are the same right. -/
theorem rightOf_injective : Function.Injective rightOf := by
  have port (k i : Fin 3) (c : Dev nD) : ∃ p : Port, ∃ d : Fin 3, rightOf (c, k, i) = (cell c p, 0, d)
      ∧ (p, d) = (![(.gate, i), (.sent i, 0), (.came i, 0)] : Fin 3 → Port × Fin 3) k := by
    fin_cases k
    · exact ⟨_, _, rfl, rfl⟩
    · exact ⟨_, _, rfl, rfl⟩
    · exact ⟨_, _, rfl, rfl⟩
  have code : Function.Injective fun x : Fin 3 × Fin 3 =>
      (![(.gate, x.2), (.sent x.2, 0), (.came x.2, 0)] : Fin 3 → Port × Fin 3) x.1 := by decide
  rintro ⟨c, k, i⟩ ⟨c', k', i'⟩ h
  obtain ⟨p, d, e, hp⟩ := port k i c
  obtain ⟨p', d', e', hp'⟩ := port k' i' c'
  rw [e, e'] at h
  have h1 : (c, p) = (c', p') := cell_injective (congrArg Prod.fst h)
  have h2 : d = d' := congrArg (fun y => y.2.2) h
  have h3 : p = p' := congrArg Prod.snd h1
  have h4 : (k, i) = (k', i') := code (hp.symm.trans ((congrArg₂ Prod.mk h3 h2).trans hp'))
  exact congrArg₂ Prod.mk (congrArg Prod.fst h1 : c = c') h4

/-- All of them, over all devices. -/
def allRights : Finset (GSem nD τ sig × ℕ × Fin 3) := Finset.univ.map ⟨rightOf, rightOf_injective⟩

/-- The launch's ghost element: the pipeline's and the protocol's. -/
def u₀ : UU :=
  (initOf (Pipeline.cells cfgs cellOf_inj) (Pipeline.launchToks cfgs cellOf_inj), initOf allCells allRights)

/-- The rights to raise device `c`'s own ports, as minted, -/
def ownRights (c : Dev nD) : sProp 𝕄 :=
  iprop((bigSep Finset.univ fun r : Fin 3 => dutyTok EX (cell c .gate) 0 r)
    ∗ (bigSep Finset.univ fun r : Fin 3 => dutyTok EX (cell c (.sent r)) 0 0)
    ∗ bigSep Finset.univ fun r : Fin 3 => dutyTok EX (cell c (.came r)) 0 0)

/-- and the rights device `c` exercises: its partners' barriers, its own sends, its partners' arrivals. -/
def heldRights (c : Dev nD) : sProp 𝕄 :=
  iprop((bigSep Finset.univ fun r : Fin 3 => dutyTok EX (cell (peer r c) .gate) 0 r)
    ∗ (bigSep Finset.univ fun r : Fin 3 => dutyTok EX (cell c (.sent r)) 0 0)
    ∗ bigSep Finset.univ fun r : Fin 3 => dutyTok EX (cell (peer r c) (.came r)) 0 0)

/-- A device's place at each of its ports. -/
def places (c : Dev nD) : sProp 𝕄 := bigSep Finset.univ fun p : Port => atPos EX (cell c p) 0 ∅ 0

/-- What the launch element gives device `c`. -/
def dealt (c : Dev nD) : sProp 𝕄 :=
  iprop((bigSep Finset.univ fun p : Port => roundState EX (plan m) (cell c p) 0)
    ∗ (bigSep Finset.univ fun p : Port => reached EX (cell c p) 0) ∗ places c ∗ ownRights c)

/-- What it holds once the register is open. -/
def ready (c : Dev nD) : sProp 𝕄 := iprop(book m ∗ places c ∗ heldRights c)

/-- The protocol's launch element is every device's deal. -/
theorem fund_plan : BI.own (EX (initOf allCells allRights)) ⊢ (|==> bigSep Finset.univ (dealt m) : sProp 𝕄) := by
  have cells (Φ : GSem nD τ sig → sProp 𝕄) :
      bigSep allCells Φ = bigSep Finset.univ fun c : Dev nD => bigSep Finset.univ fun p : Port => Φ (cell c p) := by
    unfold allCells; rw [bigSep_map, bigSep_univ_prod]; rfl
  have rights : bigSep allRights (fun x => (dutyTok EX x.1 x.2.1 x.2.2 : sProp 𝕄)) = bigSep Finset.univ fun c : Dev nD => ownRights c := by
    unfold allRights; rw [bigSep_map, bigSep_univ_prod]
    refine bigSep_congr fun c _ => ?_
    rw [bigSep_univ_prod, three]
    rfl
  iintro H
  imod (Rounds.fund EX (plan m) allCells allRights) $$ H with ⟨Hst, Hr, Hat, Htok⟩
  imodintro
  ihave Hst := (Entails.of_eq (cells fun g => roundState EX (plan m) g 0)) $$ Hst
  ihave Hr := (Entails.of_eq (cells fun g => reached EX g 0)) $$ Hr
  ihave Hat := (Entails.of_eq (cells fun g => atPos EX g 0 ∅ 0)) $$ Hat
  ihave Htok := (Entails.of_eq rights) $$ Htok
  unfold dealt places; simp only [bigSep_sep']
  isplitl [Hst]; · iexact Hst
  isplitl [Hr]; · iexact Hr
  isplitl [Hat]; · iexact Hat
  iexact Htok

/-! ## Opening the register -/

/-- A device's own scoped semaphores: each round's two. -/
abbrev osem : Fin 6 → SemLoc sig :=
  ![.dma (outSem 0), .dma (outSem 1), .dma (outSem 2), .dma (inSem 0), .dma (inSem 1), .dma (inSem 2)]

/-- They are distinct, scoped, and none is a staging semaphore. -/
theorem ownSemFacts : Pipeline.OwnSemFacts cfg0.spec osem := by decide

/-- A family over a device's ports, written out. -/
theorem seven (Φ : Port → sProp 𝕄) : bigSep Finset.univ Φ
    = iprop(Φ .gate ∗ Φ (.sent 0) ∗ Φ (.sent 1) ∗ Φ (.sent 2) ∗ Φ (.came 0) ∗ Φ (.came 1) ∗ Φ (.came 2)) :=
  bigSep_univ_eq_bigSepL Port.list (by decide) (by decide) Φ

/-- A device's own semaphores at zero, port by port. -/
theorem ownSems_eq (c : Dev nD) : (Pipeline.ownSems0 (Ix := Unit) (Name := ℕ) (U := UU) (Lvl := ℕ) (Val := Elt F) (τ := τ) osem c : sProp 𝕄)
    = iprop(semVal (cell c (.sent 0)) 0 ∗ semVal (cell c (.sent 1)) 0 ∗ semVal (cell c (.sent 2)) 0
        ∗ semVal (cell c (.came 0)) 0 ∗ semVal (cell c (.came 1)) 0 ∗ semVal (cell c (.came 2)) 0) := by
  rw [Pipeline.ownSems0_eq_of_list c osem [0, 1, 2, 3, 4, 5] (by decide) (by decide)]; rfl

/-- The barrier is the one semaphore no launch owns. -/
theorem unscoped_eq (c : Dev nD) : (unscopedSems0 c : sProp 𝕄) = semVal (cell c .gate) 0 := by
  unfold unscopedSems0; rw [bigSep_eq_bigSepL_of_eq [SemLoc.reg gateSem] (by decide) (by decide)]; rfl

/-- Own and unscoped semaphores together are all the ports'. -/
theorem sems_eq (c : Dev nD) :
    iprop(Pipeline.ownSems0 (Ix := Unit) (Name := ℕ) (U := UU) (Lvl := ℕ) (Val := Elt F) (τ := τ) osem c ∗ unscopedSems0 c)
      ⊢ (bigSep Finset.univ fun p : Port => semVal (cell c p) 0 : sProp 𝕄) := by
  rw [ownSems_eq, unscoped_eq, seven]
  iintro ⟨H, Hg⟩
  isplitl [Hg] <;> iassumption

/-- A port's counter at zero and its minted state make it known. -/
theorem open_port (c : Dev nD) (p : Port) :
    iprop(semVal (cell c p) 0 ∗ roundState EX (plan m) (cell c p) 0 ∗ reached EX (cell c p) 0)
      ⊢ (|={Set.univ}=> known m (c, p) : sProp 𝕄) := by
  unfold known
  iintro ⟨Hv, Hst, #Hr⟩
  imod ((Rounds.body_intro EX (plan m) (cell c p)).trans inv_alloc) $$ [Hv Hst] with H
  · isplitl [Hv] <;> iassumption
  imodintro
  isplitl [H]; · iexact H
  iexact Hr

/-- A device's whole deal is opened at once: every port known, its places and its own ports' rights left over. -/
theorem open_device (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun p : Port => known m (c, p)) ∗ places c ∗ ownRights c) := by
  have all : iprop((bigSep Finset.univ fun p : Port => semVal (cell c p) 0)
        ∗ (bigSep Finset.univ fun p : Port => roundState EX (plan m) (cell c p) 0)
        ∗ bigSep Finset.univ fun p : Port => reached EX (cell c p) 0)
      ⊢ (|={Set.univ}=> bigSep Finset.univ fun p : Port => known m (c, p) : sProp 𝕄) := by
    rw [← bigSep_sep', ← bigSep_sep']
    exact (bigSep_mono fun p _ => open_port m c p).trans (bigSep_fupd _ _)
  unfold dealt
  iintro ⟨Hos, Hus, Hst, Hr, Hat, Htok⟩
  ihave Hv := (sems_eq (F := F) c) $$ [Hos Hus]
  · isplitl [Hos] <;> iassumption
  imod all $$ [Hv Hst Hr] with H
  · isplitl [Hv]; · iexact Hv
    isplitl [Hst] <;> iassumption
  imodintro
  isplitl [H]; · iexact H
  isplitl [Hat] <;> iassumption

/-- What is minted for a port and exercised by its partner, dealt across the cube. -/
theorem across (Φ : Fin 3 → Dev nD → sProp 𝕄) :
    (bigSep Finset.univ fun c : Dev nD => bigSep Finset.univ fun r : Fin 3 => Φ r c)
      = bigSep Finset.univ fun c : Dev nD => bigSep Finset.univ fun r : Fin 3 => Φ r (peer r c) := by
  simp only [three, bigSep_sep']
  rw [bigSep_univ_equiv (flip 0) (Φ 0), bigSep_univ_equiv (flip 1) (Φ 1), bigSep_univ_equiv (flip 2) (Φ 2)]
  rfl

/-- All devices' own rights are all devices' exercised rights. -/
theorem rights_across : (bigSep Finset.univ fun c : Dev nD => (ownRights c : sProp 𝕄)) = bigSep Finset.univ fun c : Dev nD => heldRights c := by
  unfold ownRights heldRights
  rw [bigSep_sep', bigSep_sep', bigSep_sep', bigSep_sep',
    across (fun r c => (dutyTok EX (cell c .gate) 0 r : sProp 𝕄)), across (fun r c => (dutyTok EX (cell c (.came r)) 0 0 : sProp 𝕄))]

/-- A persistent fact is given to every member of a family. -/
theorem give_each {I : Type} [DecidableEq I] (S : Finset I) {R : sProp 𝕄} [BI.Persistent R] (Φ : I → sProp 𝕄) :
    iprop(R ∗ bigSep S Φ) ⊢ bigSep S fun i => iprop(R ∗ Φ i) := by
  rw [bigSep_sep']; exact sep_mono_left (BI.bigSep_of_persistent S R)

/-- The global step: all devices' semaphores and shares together become what each device is ready with. -/
theorem open_all : (bigSep Finset.univ fun c =>
      iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (ready m) := by
  have deal : (bigSep Finset.univ fun c : Dev nD => iprop((bigSep Finset.univ fun p : Port => known m (c, p)) ∗ places c ∗ ownRights c))
      ⊢ (bigSep Finset.univ (ready m) : sProp 𝕄) := by
    rw [bigSep_sep', bigSep_sep', rights_across, ← bigSep_univ_prod (known m)]
    unfold ready
    refine BI.Entails.trans ?_ (give_each (R := book m) Finset.univ fun c => iprop(places c ∗ heldRights c))
    rw [bigSep_sep']
    unfold book
    exact BI.Entails.refl _
  exact ((bigSep_mono fun c _ => open_device m c).trans (bigSep_fupd _ _)).trans (BI.fupd_mono deal)

/-! ## Credits -/

/-- If every device owes `n` at one port of its partner, every device may count on `n` at that port of its own. -/
theorem credit_across (r : Fin 3) (p : Port) (n : ℕ) (c : Dev nD) :
    (Pipeline.launchCred (fun d => tallyAt (cell (peer r d) p) () n) c : sProp 𝕄) ⊢ cred (tallyAt (cell c p) () n) := by
  have hsum : (∑ d : Dev nD, (tallyAt (cell (peer r d) p) () n : CellTallies nD τ sig Unit)) (cell c p) = Finsupp.single () n := by
    refine Finsupp.ext fun u => ?_
    cases u
    rw [Finset.sum_apply, Finsupp.finsetSum_apply, Finsupp.single_eq_same, Finset.sum_eq_single (peer r c)]
    · rw [tallyAt_apply, peer_peer, if_pos ⟨rfl, rfl⟩]
    · intro d _ hd
      rw [tallyAt_apply, if_neg]
      rintro ⟨h, -⟩
      have : c = peer r d := congrArg (fun g : GSem nD τ sig => g.1.1) h
      exact hd (by rw [this, peer_peer])
    · intro h; exact absurd (Finset.mem_univ _) h
  have one : (cred (tallyOn (cell c p) (launchCredit (Pipeline.owing fun d => tallyAt (cell (peer r d) p) () n) 0 (cell c p))) : sProp 𝕄)
      ⊢ cred (tallyAt (cell c p) () n) := by
    rw [Pipeline.tallyOn_launchCredit_owing, hsum]; exact BI.Entails.refl _
  unfold Pipeline.launchCred
  exact (bigSep_elim (Finset.mem_univ p.loc)).trans one

/-- The launch's credits, port by port. -/
theorem credits (c : Dev nD) : (Pipeline.launchCred O₀ c : sProp 𝕄)
    ⊢ iprop(cred (tallyAt (cell c .gate) () 3) ∗ bigSep Finset.univ fun r : Fin 3 => cred (tallyAt (cell c (.came r)) () N)) := by
  have sum3 : (tallyAt (cell c .gate) () 1 + tallyAt (cell c .gate) () 1 + tallyAt (cell c .gate) () 1 : CellTallies nD τ sig Unit)
      = tallyAt (cell c .gate) () 3 := by
    rw [tallyAt_add, tallyAt_add]
  have shape : O₀ = fun d => ((((((0 : CellTallies nD τ sig Unit) + dueCopy 2 d) + dueCopy 1 d) + dueCopy 0 d) + dueGate 2 d) + dueGate 1 d) + dueGate 0 d := rfl
  rw [shape]
  simp only [Pipeline.launchCred_add]
  rw [three]
  iintro ⟨⟨⟨⟨⟨⟨-, H2⟩, H1⟩, H0⟩, G2⟩, G1⟩, G0⟩
  ihave H2 := (credit_across 2 (.came 2) N c) $$ H2
  ihave H1 := (credit_across 1 (.came 1) N c) $$ H1
  ihave H0 := (credit_across 0 (.came 0) N c) $$ H0
  ihave G2 := (credit_across 2 .gate 1 c) $$ G2
  ihave G1 := (credit_across 1 .gate 1 c) $$ G1
  ihave G0 := (credit_across 0 .gate 1 c) $$ G0
  isplitl [G0 G1 G2]
  · rw [← sum3]
    iapply (cred_add _ _).2
    isplitl [G0 G1]
    · iapply (cred_add _ _).2
      isplitl [G0] <;> iassumption
    · iexact G2
  isplitl [H0]; · iexact H0
  isplitl [H1] <;> iassumption

/-! ## The launch theorem's conditions -/

/-- Every array is held whole. -/
theorem share_full (c : Dev nD) (w : Fin cfg0.W) : (dats m 0 c).share w = fullShare := by unfold Dat.share; split <;> rfl

/-- What a device is ready with and its credits are what the body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready m c)
      ⊢ |={Set.univ}=> iprop(start m c ∗ emp) := by
  have hc := credits (F := F) c
  rw [three] at hc
  unfold ready places heldRights start fare
  rw [seven]
  simp only [three]
  iintro ⟨-, Hlev, Hcr, -, HB, ⟨Hg, Hs0, Hs1, Hs2, Hc0, Hc1, Hc2⟩, Hk, ⟨Hts0, Hts1, Hts2⟩, Htc0, Htc1, Htc2⟩
  ihave Hc := hc $$ Hcr
  icases Hc with ⟨Hcg, Hcc0, Hcc1, Hcc2⟩
  imodintro
  isplitl
  · isplitl [HB]; · iexact HB
    isplitl [Hlev]; · iexact Hlev
    isplitl [Hcg Hg]
    · isplitl [Hcg] <;> iassumption
    isplitl [Hk]; · iexact Hk
    isplitl [Hcc0 Hs0 Hc0 Hts0 Htc0]
    · isplitl [Hcc0]; · iexact Hcc0
      isplitl [Hs0]; · iexact Hs0
      isplitl [Hc0]; · iexact Hc0
      isplitl [Hts0] <;> iassumption
    isplitl [Hcc1 Hs1 Hc1 Hts1 Htc1]
    · isplitl [Hcc1]; · iexact Hcc1
      isplitl [Hs1]; · iexact Hs1
      isplitl [Hc1]; · iexact Hc1
      isplitl [Hts1] <;> iassumption
    · isplitl [Hcc2]; · iexact Hcc2
      isplitl [Hs2]; · iexact Hs2
      isplitl [Hc2]; · iexact Hc2
      isplitl [Hts2] <;> iassumption
  · iempintro

/-- The body's start and the receive buffer are the pipeline's first assertion, -/
theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ commAny
  iintro ⟨Hs, -, Hr⟩
  isplitl [Hs] <;> iassumption

/-- and its last gives the receive buffer back, with every semaphore at zero. -/
theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems_eq, unscoped_eq]
  unfold Φ₁ commAny quiet
  rw [three]
  iintro ⟨Hr, Hg, ⟨Hs0, Hc0⟩, ⟨Hs1, Hc1⟩, Hs2, Hc2⟩
  isplitl [Hg]; · iexact Hg
  isplitl [Hs0 Hc0 Hs1 Hc1 Hs2 Hc2]
  · isplitl [Hs0]; · iexact Hs0
    isplitl [Hs1]; · iexact Hs1
    isplitl [Hs2]; · iexact Hs2
    isplitl [Hc0]; · iexact Hc0
    isplitl [Hc1] <;> iassumption
  iexact Hr

/-- The staging pipeline's own waits lie below every debt. -/
theorem staging_waits (c : Dev nD) : (levAts L lv : sProp 𝕄) ⊢ Pipeline.cellsWaits cfgs (dats m) () 0 c :=
  Pipeline.cellsWaits_intro cfgs (dats m) () 0 c fun w s t => by
    have hO : Over 0 ((dats m 0 c).owed t) := by
      rcases t with ⟨_ | _, ht⟩
      · exact over_O₀ c
      · exact Over.zero 0
    exact mayWait_of_over hO c _ (by fin_cases w <;> fin_cases s <;> exact Nat.le_refl 0)

/-! ## The run -/

/-- What array `w` of device `c` holds at the end. -/
def finalA (c : Dev nD) (w : Fin cfg0.W) : Buf (Elt F) ((cfg0.win w).arr.view.loc (c : Thread nD τ)) := (dats m 0 c).arrAt w cfg0.N

set_option maxRecDepth 8000 in
/-- Started from any memory with every semaphore at zero, the program on eight devices terminates under every fair
    schedule, with every array at its final contents and every semaphore at zero again. -/
theorem run_main : θ_run defs (onTc (τ := τ) (main (F := F))) (⟨m, fun _ => 0, ρ⟩ : MemSt nD τ sig (Elt F))
    (fun r => (∀ (c : Dev nD) (w : Fin cfg0.W), r.2.mem ((cfg0.win w).arr.view.loc (c : Thread nD τ)) = finalA m c w)
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _)
    (harr := arr_whole0) (hstage := stage_whole0) (hshare := share_full m)
    (hdistinct := winFacts0.arr_inj)
    (O₀ := O₀) (howed₀ := fun _ => rfl) (howedN := fun _ => rfl)
    (L := L) (lv := lv) (hL := L_off) (hwaits := staging_waits m)
    (G := dealt m) (G' := ready m) (u₀ := u₀)
    (hu₀ := by
      unfold u₀
      iintro Hu
      ihave H := (ownU_pair _ _) $$ Hu
      icases H with ⟨HP, HX⟩
      imod (fund_plan m) $$ HX with HG
      imodintro
      isplitl [HP] <;> iassumption)
    (hglob := open_all m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input arrays hold at the end what they held at the start. -/
theorem final_in (c : Dev nD) (w : Fin cfg0.W) (h : (cfg0.win w).isOut = false) :
    finalA m c w = m ((cfg0.win w).arr.view.loc (c : Thread nD τ)) :=
  (dats (F := F) m 0 c).arrAt_in w h _

/-- Every window's one block begins at its array's origin. -/
theorem at_origin : ∀ (w : Fin cfg0.W) (a : Fin (cfg0.win w).shape.rank), (cfg0.win w).index t0_0 a = 0 := by decide +kernel

/-- The result array holds at the end the sum over the whole cube. -/
theorem final_out (c : Dev nD) : finalA m c 3 = acc m 3 c := by
  have hemb (y : S256x256.Idx) : ((cfg0.win 3).blk t0_0).view.emb y = y :=
    funext fun a => Fin.ext (win0_3.rect_emb_val_of_index_zero t0_0 a (at_origin 3 a) y)
  refine (dats m 0 c).arrAt_eq_of_cover 3 (acc m 3 c) (fun t _ => ?_) fun i => ⟨t0_0, flush0_3 _, ?_⟩
  · rcases fin_N0 t with rfl
    funext y
    rw [View.read_apply, hemb]
    rfl
  · exact Finset.mem_map.mpr ⟨i, Finset.mem_univ _, hemb i⟩

/-- The run read at the program's own arrays. -/
theorem run_arrays : θ_run defs (onTc (τ := τ) (main (F := F))) (⟨m, fun _ => 0, ρ⟩ : MemSt nD τ sig (Elt F))
    (fun r => (∀ c : Dev nD, r.2.mem ((c : Thread nD τ).loc main_v1) = acc m 3 c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2))
      ∧ r.2.sem = fun _ => 0) :=
  (θ_run _ _ _).mono (fun _ h => ⟨fun c => ⟨(h.1 c 3).trans (final_out m c), (h.1 c 0).trans (final_in m c 0 rfl),
    (h.1 c 1).trans (final_in m c 1 rfl), (h.1 c 2).trans (final_in m c 2 rfl)⟩, h.2⟩) (run_main m ρ)

end Cert.KernelIdeal.Cube

end
-- ==== Proof.Mlp.lean ====
/-
The two-layer product `max(x A, 0) B` over the extended reals, and its blockwise sum: cut the columns of `A` and the
rows of `B` into blocks and the whole product is the sum of the blocks' products.
-/
module

public import Idealize.ShloMosaic.PureOps.Ideal
public import Idealize.ShloMosaic.Lib.Layout
public import Idealize.ShloMosaic.Lib.ValueIdxCore
public import Idealize.ShloMosaic.Lib.Pointwise.Sums

@[expose] public section

noncomputable section

namespace Cert.Mlp

open Idealize.ShloMosaic hiding ix2
open Idealize.ShloMosaic.ValueIdx
open scoped BigOperators

/-- A matrix of extended reals. -/
abbrev Mat (M N : ℕ) := (⟨2, ![M, N]⟩ : Shape).Idx → EReal

variable {M K H N : ℕ}

/-- The hidden layer: the positive part of `x A`. -/
def layer (x : Mat M K) (A : Mat K H) (i : Fin M) (h : Fin H) : EReal := max (∑ k : Fin K, x (ix2 i k) * A (ix2 k h)) 0

/-- Both layers. -/
def mlp (x : Mat M K) (A : Mat K H) (B : Mat H N) : Mat M N := fun y =>
  ∑ h : Fin H, layer x A (y 0) h * B (ix2 h (y 1))

/-- Block `d`'s hidden unit `l` is the whole layer's unit `d * W + l`: column for column the same. -/
theorem layer_block {D W : ℕ} (x : Mat M K) (A : Mat K H) (t : Layout.Tiles ⟨2, ![K, W]⟩ ⟨2, ![K, H]⟩ 1 D) (d : Fin D) (l : Fin W)
    (hl : d.val * W + l.val < H) (i : Fin M) :
    layer x (Layout.block ⟨2, ![K, W]⟩ ⟨2, ![K, H]⟩ 1 D d A t) i l = layer x A i ⟨d.val * W + l.val, hl⟩ := by
  unfold layer
  refine congrArg (max · 0) (Finset.sum_congr rfl fun k _ => ?_)
  rw [Layout.block_apply]
  refine congrArg (x (ix2 i k) * A ·) (funext fun a => Fin.ext ?_)
  match a with
  | ⟨0, _⟩ => exact (Layout.idx_cols_val t d (ix2 k l)).1
  | ⟨1, _⟩ => exact (Layout.idx_cols_val t d (ix2 k l)).2

/-- The whole product is the sum of the blocks' products. -/
theorem mlp_blocks {D W : ℕ} (hH : D * W = H) (x : Mat M K) (A : Mat K H) (B : Mat H N)
    (tA : Layout.Tiles ⟨2, ![K, W]⟩ ⟨2, ![K, H]⟩ 1 D) (tB : Layout.Tiles ⟨2, ![W, N]⟩ ⟨2, ![H, N]⟩ 0 D) (y : (⟨2, ![M, N]⟩ : Shape).Idx) :
    ∑ d : Fin D, mlp x (Layout.block ⟨2, ![K, W]⟩ ⟨2, ![K, H]⟩ 1 D d A tA) (Layout.block ⟨2, ![W, N]⟩ ⟨2, ![H, N]⟩ 0 D d B tB) y
      = mlp x A B y := by
  unfold mlp
  rw [Fin.sum_univ_tiles D W hH]
  refine Finset.sum_congr rfl fun d _ => Finset.sum_congr rfl fun l _ => ?_
  refine congrArg₂ (· * ·) (layer_block x A tA d l _ (y 0)) (congrArg B (funext fun a => Fin.ext ?_))
  match a with
  | ⟨0, _⟩ => exact (Layout.idx_rows_val tB d (ix2 l (y 1))).1
  | ⟨1, _⟩ => exact (Layout.idx_rows_val tB d (ix2 l (y 1))).2

end Cert.Mlp

end
-- ==== Proof.Value.lean ====
/-
The value, over the extended reals: each device's own product is its block's `max(x A, 0) B`; three rounds of adding the
partner's sum leave on every device the sum over all eight; and that is the reference's product of the whole matrices.
-/
module

public import proofs.«01_k».proof.Proof.Mlp
public import proofs.«01_k».proof.Proof.KernelIdeal.Launch
public import proofs.«01_k».proof.Proof.Gen.ReferenceIdeal
public import Idealize.ShloMosaic.Lib.MatmulPlain
public import Idealize.ShloMosaic.Lib.StackMember
public import Idealize.ShloMosaic.Lib.IdealHost

@[expose] public section

noncomputable section

namespace Cert.Value

open Idealize.ShloMosaic hiding ix2 eq_ix2
open Idealize.ShloMosaic.TcCoe Idealize.ShloMosaic.ValueIdx Cert.Mlp
open Cert.KernelIdeal (nD τ sig main_arg0 main_arg1 main_arg2 win0_0 win0_1 win0_2)
open Cert.KernelIdeal.Gen (k0_pay2 t0_0)
open Cert.KernelIdeal.Cube (peer acc xAt aAt bAt at_origin)
open scoped BigOperators

/-! ## The sum over the cube -/

/-- The eight devices as reached from `c`: bit `r` of the position says whether round `r`'s step is taken. -/
def reach (c : Dev nD) : Fin 8 → Dev nD :=
  ![c, peer 0 c, peer 1 c, peer 0 (peer 1 c), peer 2 c, peer 0 (peer 2 c), peer 1 (peer 2 c), peer 0 (peer 1 (peer 2 c))]

/-- Each device is reached exactly once. -/
theorem reach_bijective (c : Dev nD) : Function.Bijective (reach c) := by revert c; decide

/-- A sum that three times doubles itself with the partner's has added up all eight devices' values. -/
theorem cube_sum {R : Type} [AddCommMonoid R] (s : ℕ → Dev nD → R) (step : ∀ n c, s (n + 1) c = s n c + s n (peer n c)) (c : Dev nD) :
    s 3 c = ∑ d : Dev nD, s 0 d := by
  rw [← (reach_bijective c).sum_comp (s 0), Fin.sum_univ_eight, step 2, step 1, step 1, step 0, step 0, step 0, step 0]
  show _ = s 0 c + s 0 (peer 0 c) + s 0 (peer 1 c) + s 0 (peer 0 (peer 1 c)) + s 0 (peer 2 c) + s 0 (peer 0 (peer 2 c))
    + s 0 (peer 1 (peer 2 c)) + s 0 (peer 0 (peer 1 (peer 2 c)))
  simp only [add_assoc]

/-! ## The kernel's product -/

/-- What a device computes by itself is the two-layer product of what it holds. -/
theorem own_product (x : FVec Ideal Cert.KernelIdeal.S256x256 .bf16) (a : FVec Ideal Cert.KernelIdeal.S256x512 .bf16)
    (b : FVec Ideal Cert.KernelIdeal.S512x256 .bf16) : k0_pay2 (F := Ideal) x a b = mlp (M := 256) (K := 256) (H := 512) (N := 256) x a b := by
  funext y
  obtain ⟨i, j, rfl⟩ : ∃ (i : Fin 256) (j : Fin 256), y = ix2 i j := ⟨y 0, y 1, eq_ix2 y⟩
  unfold k0_pay2
  simp only [shapeCast_self]
  refine (Ideal.matmul_plain_apply (φ₁ := .bf16) (φ₂ := .bf16) none _ b _ i j).trans ?_
  show Ideal.ofBits .f32 0x00000000#32 + _ = _
  rw [Ideal.ofBits_zero_f32, zero_add]
  unfold mlp layer
  refine Finset.sum_congr rfl fun h _ => congrArg (· * b (ix2 h j)) ?_
  refine (congrArg (max · (Ideal.ofBits .f32 0x00000000#32)) (Ideal.matmul_plain_apply (φ₁ := .bf16) (φ₂ := .bf16) none x a _ i h)).trans ?_
  show max (Ideal.ofBits .f32 0x00000000#32 + _) _ = _
  rw [Ideal.ofBits_zero_f32, zero_add]

/-! ## The reference's product -/

/-- The reference's operations compose to the two-layer product. -/
theorem whole_product (x : FVec Ideal Cert.ReferenceIdeal.S256x256 .bf16) (a : FVec Ideal Cert.ReferenceIdeal.S256x4096 .bf16)
    (b : FVec Ideal Cert.ReferenceIdeal.S4096x256 .bf16) :
    truncf .bf16 (Host.dotGeneral Cert.ReferenceIdeal.dot_S256x4096_S4096x256_S256x256_1_0_0_1_n_n none
        (maximumf (truncf .bf16 (Host.dotGeneral Cert.ReferenceIdeal.dot_S256x256_S256x4096_S256x4096_1_0_0_1_n_n none x a) Cert.ReferenceIdeal.Gen.bitsLt_bf16_f32)
          (broadcastInDim Cert.ReferenceIdeal.S256x4096 ![] Cert.ReferenceIdeal.Gen.bcast_S_S256x4096 (constant Cert.ReferenceIdeal.S_ .bf16 0x0000#16))) b)
        Cert.ReferenceIdeal.Gen.bitsLt_bf16_f32
      = mlp (M := 256) (K := 256) (H := 4096) (N := 256) x a b := by
  funext y
  obtain ⟨i, j, rfl⟩ : ∃ (i : Fin 256) (j : Fin 256), y = ix2 i j := ⟨y 0, y 1, eq_ix2 y⟩
  refine (StackMember.dotGeneral_plain_apply none _ b i j).trans ?_
  unfold mlp layer
  refine Finset.sum_congr rfl fun h _ => congrArg (· * b (ix2 h j)) ?_
  refine (congrArg (max · (Ideal.ofBits .bf16 0x0000#16)) (StackMember.dotGeneral_plain_apply none x a i h)).trans ?_
  rw [Ideal.ofBits_zero_bf16]

/-! ## The two are equal -/

variable (m : (ℓ : Loc nD τ sig) → Buf (Elt Ideal) ℓ)

/-- A device's input blocks are its whole argument arrays. -/
theorem xAt_eq (c : Dev nD) : xAt m c = m ((c : Thread nD τ).loc main_arg0) :=
  funext fun y => congrArg (m ((c : Thread nD τ).loc main_arg0))
    (funext fun a => Fin.ext (win0_0.rect_emb_val_of_index_zero t0_0 a (at_origin 0 a) y))
/-- The same of the first matrix's block, -/
theorem aAt_eq (c : Dev nD) : aAt m c = m ((c : Thread nD τ).loc main_arg1) :=
  funext fun y => congrArg (m ((c : Thread nD τ).loc main_arg1))
    (funext fun a => Fin.ext (win0_1.rect_emb_val_of_index_zero t0_0 a (at_origin 1 a) y))
/-- and of the second's. -/
theorem bAt_eq (c : Dev nD) : bAt m c = m ((c : Thread nD τ).loc main_arg2) :=
  funext fun y => congrArg (m ((c : Thread nD τ).loc main_arg2))
    (funext fun a => Fin.ext (win0_2.rect_emb_val_of_index_zero t0_0 a (at_origin 2 a) y))

/-- When the devices hold one `x`, the column blocks of `A` and the row blocks of `B`, each ends with `max(x A, 0) B`. -/
theorem acc_eq (x : Mat 256 256) (A : Mat 256 4096) (B : Mat 4096 256)
    (hx : ∀ c : Dev nD, m ((c : Thread nD τ).loc main_arg0) = x)
    (hA : ∀ c : Dev nD, m ((c : Thread nD τ).loc main_arg1) = Layout.block ⟨2, ![256, 512]⟩ ⟨2, ![256, 4096]⟩ 1 8 c A)
    (hB : ∀ c : Dev nD, m ((c : Thread nD τ).loc main_arg2) = Layout.block ⟨2, ![512, 256]⟩ ⟨2, ![4096, 256]⟩ 0 8 c B)
    (c : Dev nD) : acc m 3 c = mlp x A B := by
  funext y
  refine (cube_sum (fun n d => (acc m n d y : EReal)) (fun n d => rfl) c).trans ?_
  refine Eq.trans (Finset.sum_congr rfl fun d _ => ?_) (mlp_blocks (D := 8) (W := 512) (H := 4096) (by decide) x A B (by decide) (by decide) y)
  show k0_pay2 (F := Ideal) (xAt m d) (aAt m d) (bAt m d) y = _
  rw [xAt_eq, aAt_eq, bAt_eq, hx, hA, hB]
  exact congrFun (own_product _ _ _) y

end Cert.Value

end
-- ==== Proof.lean ====
/-
The assembly: each of the five claims from the run of the program it speaks of. The runs of the kernel are in
Proof/Kernel and Proof/KernelIdeal, the equation between the two results in Proof/Value.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel terminates, keeps its arguments and leaves every semaphore at zero. -/
theorem kernel_frame : Cert.quiescent_Kernel := fun m g _ =>
  (θ_run _ _ _).mono (fun _ h => ⟨fun c => (h.1 c).2, h.2⟩)
    (Cert.Kernel.Cube.run_arrays (F := Bits) m g)

/-- So does its idealization. -/
theorem ideal_frame : Cert.quiescent_KernelIdeal := fun m g _ =>
  (θ_run _ _ _).mono (fun _ h => ⟨fun c => (h.1 c).2, h.2⟩)
    (Cert.KernelIdeal.Cube.run_arrays (F := Ideal) m g)

/-- The reference terminates and keeps its arguments; it has no semaphore. -/
theorem reference_frame : Cert.quiescent_ReferenceIdeal := fun m g _ =>
  (θ_run _ _ _).mono (fun r h => ⟨fun c => (h c).2, sem_eq_zero_of_no_sems rfl r.2⟩)
    (Cert.ReferenceIdeal.Value.run (F := Ideal) m g)

/-- Over the extended reals every device of the kernel ends with the reference's result. -/
theorem same_result : Cert.algebraic_KernelIdeal_ReferenceIdeal := fun m g m' g' _ harg =>
  ⟨Cert.Mlp.mlp (M := 256) (K := 256) (H := 4096) (N := 256)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)),
    (θ_run _ _ _).mono (fun _ h c =>
      ⟨(h.1 c).1.trans (Cert.Value.acc_eq m _ _ _ (fun d => (harg d).1) (fun d => (harg d).2.1) (fun d => (harg d).2.2) c), (h.1 c).2⟩)
      (Cert.KernelIdeal.Cube.run_arrays (F := Ideal) m g),
    (θ_run _ _ _).mono (fun _ h => ⟨(h 0).1.trans (Cert.Value.whole_product _ _ _), (h 0).2⟩)
      (Cert.ReferenceIdeal.Value.run (F := Ideal) m' g')⟩

/-- Everything the certificate claims. -/
theorem claim : Cert.Claim := ⟨Cert.Kernel.Gen.facts, Cert.KernelIdeal.Gen.facts, Cert.ReferenceIdeal.Gen.facts,
  kernel_frame, ideal_frame, reference_frame, trivial, same_result⟩

end Cert.Proof

end
